-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x256x1024 : Shape := ⟨3, ![1, 256, 1024]⟩
abbrev S1024x1024 : Shape := ⟨2, ![1024, 1024]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)

variable [Facts]

def fn {F : FTy → Type} [FloatOps F] (main_arg0 : FVec F S1x256x1024 .bf16) (main_arg1 : FVec F S1024x1024 .bf16) (main_arg2 : FVec F S1024x1024 .bf16) (main_arg3 : FVec F S1024x1024 .bf16) (main_arg4 : FVec F S1024x1024 .bf16) : IVec S1x256x1024 1 × IVec S1024x1024 1 × IVec S1024x1024 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1024x1024 .bf16 := Host.absf main_arg2
  let main_cst_1 : FVec F S_ .bf16 := constant S_ .bf16 0x7F80#16
  let main_v7 : FVec F S1024x1024 .bf16 := broadcastInDim S1024x1024 ![] bcast_S_S1024x1024 main_cst_1
  let main_v8 : IVec S1024x1024 1 := cmpf .olt main_v6 main_v7
  (main_v2, main_v5, main_v8)
-- ==== Pre_scores_finite_ReferenceIdeal.lean ====
abbrev S1x256x1024 : Shape := ⟨3, ![1, 256, 1024]⟩
abbrev S1024x4096 : Shape := ⟨2, ![1024, 4096]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  bcast_S_S1024x4096 : S_.BroadcastsInDim S1024x4096 (![] : Fin 0 → Fin S1024x4096.rank)

variable [Facts]

def fn {F : FTy → Type} [FloatOps F] (main_arg0 : FVec F S1x256x1024 .bf16) (main_arg1 : FVec F S1024x4096 .bf16) (main_arg2 : FVec F S1024x4096 .bf16) (main_arg3 : FVec F S1024x4096 .bf16) (main_arg4 : FVec F S4096x1024 .bf16) : IVec S1x256x1024 1 × IVec S1024x4096 1 × IVec S1024x4096 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_v3 : FVec F S1024x4096 .bf16 := Host.absf main_arg1
  let main_cst_0 : FVec F S_ .bf16 := constant S_ .bf16 0x7F80#16
  let main_v4 : FVec F S1024x4096 .bf16 := broadcastInDim S1024x4096 ![] bcast_S_S1024x4096 main_cst_0
  let main_v5 : IVec S1024x4096 1 := cmpf .olt main_v3 main_v4
  let main_v6 : FVec F S1024x4096 .bf16 := Host.absf main_arg2
  let main_cst_1 : FVec F S_ .bf16 := constant S_ .bf16 0x7F80#16
  let main_v7 : FVec F S1024x4096 .bf16 := broadcastInDim S1024x4096 ![] bcast_S_S1024x4096 main_cst_1
  let main_v8 : IVec S1024x4096 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S256x1024 : Shape := ⟨2, ![256, 1024]⟩
abbrev S4x256x256 : Shape := ⟨3, ![4, 256, 256]⟩
abbrev S2x4 : Shape := ⟨2, ![2, 4]⟩
abbrev S_ : Shape := ⟨0, ![]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1024x256 : Shape := ⟨2, ![1024, 256]⟩
abbrev S1x256x256 : Shape := ⟨3, ![1, 256, 256]⟩
abbrev S1x1 : Shape := ⟨2, ![1, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1x256x1024, .f32⟩
  | .local _ .vmem, ⟨0, _⟩ => ⟨S1x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x256x1024, .f32⟩
  | .local _ .vmem, ⟨6, _⟩ => ⟨S256x1024, .bf16⟩
  | .local _ .vmem, ⟨7, _⟩ => ⟨S4x256x256, .bf16⟩
  | .local _ .vmem, ⟨8, _⟩ => ⟨S4x256x256, .bf16⟩
  | .local _ .vmem, ⟨9, _⟩ => ⟨S4x256x256, .bf16⟩
  | .local _ .vmem, ⟨10, _⟩ => ⟨S4x256x256, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v13 : BitVec 32 := Scalar.xori v2 c1_i32_10
  let c1_i32_76 : BitVec 32 := 1#32
  let v174 : BitVec 32 := Scalar.muli v13 c1_i32_76
  let v175 : BitVec 32 := Scalar.addi c0_i32_77 v174
  v175.toNat
def k0_dev4 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v13 : BitVec 32 := Scalar.xori v2 c1_i32_10
  let c1_i32_91 : BitVec 32 := 1#32
  let v190 : BitVec 32 := Scalar.muli v13 c1_i32_91
  let v191 : BitVec 32 := Scalar.addi c0_i32_92 v190
  v191.toNat
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v13 : BitVec 32 := Scalar.xori v2 c1_i32_10
  let c1_i32_106 : BitVec 32 := 1#32
  let v206 : BitVec 32 := Scalar.muli v13 c1_i32_106
  let v207 : BitVec 32 := Scalar.addi c0_i32_107 v206
  v207.toNat
def k0_dev6 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v13 : BitVec 32 := Scalar.xori v2 c1_i32_10
  let c1_i32_121 : BitVec 32 := 1#32
  let v222 : BitVec 32 := Scalar.muli v13 c1_i32_121
  let v223 : BitVec 32 := Scalar.addi c0_i32_122 v222
  v223.toNat
def k0_dev7 (d0 : Dev nD) : Nat :=
  let c0_i32_152 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.subi c3_i32 v2
  let c1_i32_151 : BitVec 32 := 1#32
  let v248 : BitVec 32 := Scalar.muli v14 c1_i32_151
  let v249 : BitVec 32 := Scalar.addi c0_i32_152 v248
  v249.toNat
def k0_dev8 (d0 : Dev nD) : Nat :=
  let c0_i32_182 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.subi c3_i32 v2
  let c1_i32_181 : BitVec 32 := 1#32
  let v274 : BitVec 32 := Scalar.muli v14 c1_i32_181
  let v275 : BitVec 32 := Scalar.addi c0_i32_182 v274
  v275.toNat
def k0_dev9 (d0 : Dev nD) : Nat :=
  let c0_i32_212 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.subi c3_i32 v2
  let c1_i32_211 : BitVec 32 := 1#32
  let v300 : BitVec 32 := Scalar.muli v14 c1_i32_211
  let v301 : BitVec 32 := Scalar.addi c0_i32_212 v300
  v301.toNat
def k0_dev10 (d0 : Dev nD) : Nat :=
  let c0_i32_242 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.subi c3_i32 v2
  let c1_i32_241 : BitVec 32 := 1#32
  let v326 : BitVec 32 := Scalar.muli v14 c1_i32_241
  let v327 : BitVec 32 := Scalar.addi c0_i32_242 v326
  v327.toNat
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x4096 : Shape := ⟨2, ![1024, 4096]⟩
abbrev S4096x1024 : Shape := ⟨2, ![4096, 1024]⟩
abbrev S1x256x4096 : Shape := ⟨3, ![1, 256, 4096]⟩
abbrev S1x256x32x128 : Shape := ⟨4, ![1, 256, 32, 128]⟩
abbrev S_ : Shape := ⟨0, ![]⟩
abbrev S1x32x256x1 : Shape := ⟨4, ![1, 32, 256, 1]⟩
abbrev S1x32x256x256 : Shape := ⟨4, ![1, 32, 256, 256]⟩
abbrev S1x32x256 : Shape := ⟨3, ![1, 32, 256]⟩
abbrev S1x256x32x1 : Shape := ⟨4, ![1, 256, 32, 1]⟩
abbrev S1x32x128x256 : Shape := ⟨4, ![1, 32, 128, 256]⟩

abbrev nBuf : Space → Nat
  | .hbm => 51
  | .vmem => 0
  | .smem => 0
  | _ => 0

abbrev bufTy : (tb : Table) → Fin (tcTables nBuf tb) → BufTy
  | .hbm, ⟨0, _⟩ => ⟨S1x256x1024, .bf16⟩
  | .hbm, ⟨1, _⟩ => ⟨S1024x4096, .bf16⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S1x256x4096, .f32⟩
  | .hbm, ⟨6, _⟩ => ⟨S1x256x4096, .bf16⟩
  | .hbm, ⟨7, _⟩ => ⟨S1x256x32x128, .bf16⟩
  | .hbm, ⟨8, _⟩ => ⟨S1x256x4096, .f32⟩
  | .hbm, ⟨9, _⟩ => ⟨S1x256x4096, .bf16⟩
  | .hbm, ⟨10, _⟩ => ⟨S1x256x32x128, .bf16⟩
  | .hbm, ⟨11, _⟩ => ⟨S1x256x4096, .f32⟩
  | .hbm, ⟨12, _⟩ => ⟨S1x256x4096, .bf16⟩
  | .hbm, ⟨13, _⟩ => ⟨S1x256x32x128, .bf16⟩
  | .hbm, ⟨14, _⟩ => ⟨S_, .f32⟩
  | .hbm, ⟨15, _⟩ => ⟨S1x256x32x128, .f32⟩
  | .hbm, ⟨16, _⟩ => ⟨S_, .f32⟩
  | .hbm, ⟨17, _⟩ => ⟨S1x32x256x1, .f32⟩
  | .hbm, ⟨18, _⟩ => ⟨S_, .f32⟩
  | .hbm, ⟨19, _⟩ => ⟨S1x32x256x1, .f32⟩
  | .hbm, ⟨20, _⟩ => ⟨S1x32x256x256, .f32⟩
  | .hbm, ⟨21, _⟩ => ⟨S1x32x256x256, .bf16⟩
  | .hbm, ⟨22, _⟩ => ⟨S1x32x256x256, .f32⟩
  | .hbm, ⟨23, _⟩ => ⟨S_, .f32⟩
  | .hbm, ⟨24, _⟩ => ⟨S1x32x256x256, .f32⟩
  | .hbm, ⟨25, _⟩ => ⟨S1x32x256x256, .f32⟩
  | .hbm, ⟨26, _⟩ => ⟨S_, .f32⟩
  | .hbm, ⟨27, _⟩ => ⟨S1x32x256, .f32⟩
  | .hbm, ⟨28, _⟩ => ⟨S1x32x256x1, .f32⟩
  | .hbm, ⟨29, _⟩ => ⟨S1x32x256x1, .f32⟩
  | .hbm, ⟨30, _⟩ => ⟨S1x32x256x1, .f32⟩
  | .hbm, ⟨31, _⟩ => ⟨S1x32x256x1, .f32⟩
  | .hbm, ⟨32, _⟩ => ⟨S1x32x256x256, .f32⟩
  | .hbm, ⟨33, _⟩ => ⟨S1x32x256x256, .f32⟩
  | .hbm, ⟨34, _⟩ => ⟨S1x32x256x256, .f32⟩
  | .hbm, ⟨35, _⟩ => ⟨S1x32x256x1, .f32⟩
  | .hbm, ⟨36, _⟩ => ⟨S_, .f32⟩
  | .hbm, ⟨37, _⟩ => ⟨S1x32x256, .f32⟩
  | .hbm, ⟨38, _⟩ => ⟨S1x32x256x1, .f32⟩
  | .hbm, ⟨39, _⟩ => ⟨S1x32x256x1, .f32⟩
  | .hbm, ⟨40, _⟩ => ⟨S1x256x32x1, .f32⟩
  | .hbm, ⟨41, _⟩ => ⟨S1x256x32x128, .f32⟩
  | .hbm, ⟨42, _⟩ => ⟨S1x256x32x128, .f32⟩
  | .hbm, ⟨43, _⟩ => ⟨S1x32x128x256, .f32⟩
  | .hbm, ⟨44, _⟩ => ⟨S1x256x32x128, .f32⟩
  | .hbm, ⟨45, _⟩ => ⟨S1x256x32x128, .f32⟩
  | .hbm, ⟨46, _⟩ => ⟨S1x256x32x1, .f32⟩
  | .hbm, ⟨47, _⟩ => ⟨S1x256x32x128, .f32⟩
  | .hbm, ⟨48, _⟩ => ⟨S1x256x32x128, .f32⟩
  | .hbm, ⟨49, _⟩ => ⟨S1x256x4096, .f32⟩
  | .hbm, ⟨50, _⟩ => ⟨S1x256x1024, .f32⟩
  | _, _ => ⟨S1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Slots.lean ====
/-
# Slots of a four-slot buffer

The kernel's four communication buffers each hold four slots of 256 × 256 elements (one per column chunk of the
result). A slot is written and read through the rectangle `rk k`, and moved by transfers through that rectangle
with its leading axis of extent one dropped. Here, for an arbitrary memref of that shape: the four slots are
disjoint and cover the buffer, and a landing writes into the destination slot what the source slot held.
-/
module

public import proofs.«01_k».proof.Proof.Gen.KernelIdeal.Frame
public import Idealize.ShloMosaic.Lib.Pipeline.Value

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost names of the launch: the pipeline's own rounds and the kernel's, whose duties are named by a stage. -/
abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

theorem rk_inb (k : Fin 4) : ∀ a, (![k.val, 0, 0] : Fin 3 → ℕ) a + S1x256x256.size a ≤ S4x256x256.size a := by
  revert k; decide

/-- Slot `k` of a four-slot buffer. -/
abbrev rk (k : Fin 4) : Rect S4x256x256 := Rect.unit (s := S4x256x256) ![k.val, 0, 0] S1x256x256.size (rk_inb k)

/-- The slot a multi-index lies in is its leading coordinate. -/
theorem mem_rk (k : Fin 4) (i : S4x256x256.Idx) : i ∈ (rk k).set ↔ (i 0).val = k.val := by
  rw [Rect.mem_set_unit]
  constructor
  · intro h
    have h0 := h 0
    simp at h0
    omega
  · intro h a
    have h1 : (i 1).val < 256 := (i 1).isLt
    have h2 : (i 2).val < 256 := (i 2).isLt
    fin_cases a
    · simp; omega
    · simpa using h1
    · simpa using h2

abbrev SlotMem : Type := Memref sig .tc .vmem S4x256x256 .bf16

/-- The elements of slot `k`. -/
abbrev slotSet (M : SlotMem) (k : Fin 4) : Finset (M.view.ty.shape.Idx) := (M.access (rk k)).set

theorem slotSet_eq (M : SlotMem) (k : Fin 4) : slotSet M k = (rk k).set.map M.view.emb := View.set_slice _ _

theorem slots_disjoint (M : SlotMem) (k k' : Fin 4) (h : k ≠ k') : Disjoint (slotSet M k) (slotSet M k') := by
  rw [slotSet_eq, slotSet_eq, Finset.disjoint_map, Finset.disjoint_left]
  intro i hi hi'
  rw [mem_rk] at hi hi'
  exact h (Fin.ext (hi.symm.trans hi'))

theorem slots_cover (M : SlotMem) : Finset.univ.biUnion (slotSet M) = M.view.set := by
  ext x
  simp only [Finset.mem_biUnion, Finset.mem_univ, true_and, slotSet_eq, Finset.mem_map, View.set]
  constructor
  · rintro ⟨k, y, _, rfl⟩; exact ⟨y, rfl⟩
  · rintro ⟨y, rfl⟩; exact ⟨⟨(y 0).val, (y 0).isLt⟩, y, (mem_rk _ _).mpr rfl, rfl⟩

/-- Slot `k` of a memref on device `c`, holding `v`. -/
def slotAt (c : Dev nD) (M : SlotMem) (k : Fin 4) (v : Vec F S1x256x256 .bf16) : sProp 𝕄 :=
  iprop(∃ f, ⌜(M.access (rk k)).read (Elt F) f = v⌝ ∗ ((M.access (rk k)).loc (c : Thread nD τ) ↦[(M.access (rk k)).set]{fullShare} f))

/-- Slot `k` of a memref on device `c`, whatever it holds. -/
def slotFree (c : Dev nD) (M : SlotMem) (k : Fin 4) : sProp 𝕄 :=
  iprop(∃ f, ((M.access (rk k)).loc (c : Thread nD τ) ↦[(M.access (rk k)).set]{fullShare} f))

theorem slotAt_free (c : Dev nD) (M : SlotMem) (k : Fin 4) (v : Vec F S1x256x256 .bf16) : slotAt c M k v ⊢ slotFree (F := F) c M k := by
  unfold slotAt slotFree
  iintro ⟨%f, %hf, H⟩
  iexists f; iexact H

/-- A whole buffer is its four slots. -/
theorem slots_split (c : Dev nD) (M : SlotMem) (hM : M.view.set = Finset.univ) (f : Buf (Elt F) (M.view.loc (c : Thread nD τ))) :
    (M.view.loc (c : Thread nD τ) ↦{fullShare} f : sProp 𝕄) ⊢ bigSep Finset.univ fun k : Fin 4 => slotFree (F := F) c M k := by
  have hS : (Finset.univ : Finset (Fin 4)).biUnion (slotSet M) = (Finset.univ : Finset (Idx (M.view.loc (c : Thread nD τ)))) := (slots_cover M).trans hM
  rw [Ring.pointsTo_sub_blocks (ℓ := M.view.loc (c : Thread nD τ)) (slotSet M) (slots_disjoint M) Finset.univ hS f]
  exact bigSep_mono fun k _ => show (M.view.loc (c : Thread nD τ) ↦[slotSet M k]{fullShare} f : sProp 𝕄) ⊢ slotFree c M k from by
    unfold slotFree
    iintro H
    iexists f; iexact H

/-- The four slots, whatever they hold, are the whole buffer again. -/
theorem slots_join (c : Dev nD) (M : SlotMem) (hM : M.view.set = Finset.univ) (f₀ : Buf (Elt F) (M.view.loc (c : Thread nD τ))) :
    (bigSep Finset.univ fun k : Fin 4 => slotFree (F := F) c M k) ⊢ (iprop(∃ f, M.view.loc (c : Thread nD τ) ↦{fullShare} f) : sProp 𝕄) := by
  have hS : (Finset.univ : Finset (Fin 4)).biUnion (slotSet M) = (Finset.univ : Finset (Idx (M.view.loc (c : Thread nD τ)))) := (slots_cover M).trans hM
  refine BIBase.Entails.trans ?_ (Ring.pointsTo_sub_blocks_join_exists (ℓ := M.view.loc (c : Thread nD τ)) (slotSet M) (slots_disjoint M) Finset.univ hS (q := fullShare) f₀)
  exact bigSep_mono fun k _ => show slotFree (F := F) c M k ⊢ (iprop(∃ f, M.view.loc (c : Thread nD τ) ↦[slotSet M k]{fullShare} f) : sProp 𝕄) from by
    unfold slotFree
    iintro ⟨%f, H⟩
    iexists f; iexact H

/-- The slot as transfers name it has the slot's elements. -/
theorem squeeze_pts (c : Dev nD) (M : SlotMem) (k : Fin 4) (h) (hq : S1x256x256.Squeezes S256x256) (f : M.view.ty.Contents (Elt F)) :
    ((((M.slice (rk k) h).squeeze S256x256 hq).view.loc (c : Thread nD τ) ↦[((M.slice (rk k) h).squeeze S256x256 hq).view.set]{fullShare} f) : sProp 𝕄)
      = ((M.access (rk k)).loc (c : Thread nD τ) ↦[(M.access (rk k)).set]{fullShare} f) :=
  congrArg (fun S => (M.view.loc (c : Thread nD τ) ↦[S]{fullShare} f : sProp 𝕄)) (Memref.set_view_squeeze (M.slice (rk k) h) hq)

/-- A transfer of one slot lands in the destination slot what the source slot held. -/
theorem landing (c : Dev nD) (M M' : SlotMem) (k : Fin 4) (h h') (hq : S1x256x256.Squeezes S256x256) (v : Vec F S1x256x256 .bf16)
    (fd : M'.view.ty.Contents (Elt F)) (fs : M.view.ty.Contents (Elt F)) (hfs : (M.access (rk k)).read (Elt F) fs = v) :
    ((((M'.slice (rk k) h').squeeze S256x256 hq).view.loc (c : Thread nD τ) ↦[((M'.slice (rk k) h').squeeze S256x256 hq).view.set]{fullShare}
        ((M'.slice (rk k) h').squeeze S256x256 hq).view.write (Elt F) fd (((M.slice (rk k) h).squeeze S256x256 hq).view.read (Elt F) fs) Finset.univ) : sProp 𝕄)
      ⊢ slotAt c M' k v := by
  unfold slotAt
  refine Entails.trans ?_ (exists_intro (((M'.slice (rk k) h').squeeze S256x256 hq).view.write (Elt F) fd (((M.slice (rk k) h).squeeze S256x256 hq).view.read (Elt F) fs) Finset.univ))
  have hv : (M'.access (rk k)).read (Elt F) (((M'.slice (rk k) h').squeeze S256x256 hq).view.write (Elt F) fd (((M.slice (rk k) h).squeeze S256x256 hq).view.read (Elt F) fs) Finset.univ) = v := by
    have e := View.read_write_univ (v := ((M'.slice (rk k) h').squeeze S256x256 hq).view) fd (((M.slice (rk k) h).squeeze S256x256 hq).view.read (Elt F) fs)
    rw [Memref.read_squeeze_slice M (rk k) h hq shapeCasts_S1x256x256_S256x256 fs,
      Memref.read_squeeze_slice M' (rk k) h' hq shapeCasts_S1x256x256_S256x256] at e
    have e' := congrArg (fun y => shapeCast S1x256x256 y shapeCasts_S256x256_S1x256x256) e
    simp only [shapeCast_shapeCast] at e'
    rw [Memref.read_squeeze_slice M (rk k) h hq shapeCasts_S1x256x256_S256x256 fs]
    exact e'.trans hfs
  iintro H
  isplitr
  · ipureintro; exact hv
  · ihave H' := (Entails.of_eq (congrArg (fun S => (((M'.slice (rk k) h').squeeze S256x256 hq).view.loc (c : Thread nD τ) ↦[S]{fullShare}
        ((M'.slice (rk k) h').squeeze S256x256 hq).view.write (Elt F) fd (((M.slice (rk k) h).squeeze S256x256 hq).view.read (Elt F) fs) Finset.univ : sProp 𝕄))
        (Memref.set_view_squeeze (M'.slice (rk k) h') hq))) $$ H
    iapply (Entails.rfl); iexact H'

end Cert.AttnProof
-- ==== Proof.Protocol.lean ====
/-
# The protocol of the kernel's semaphores

Four devices, two exchange stages. At stage `s` device `c` exchanges with `peer s c`: at stage 0 the two devices
whose numbers differ in the lowest bit, at stage 1 the device numbered `3 - c`. Each exchange moves four slots, one
per column chunk `k` of the result; a transfer is named by `j = (s, k)`.

* The barrier cell of `c`: `c` waits for two units once. The unit named `s` is signalled by `peer s c`, with the
  whole landing buffer of stage `s` of that peer, whatever it holds.
* The send cell of transfer `j` of `c`: credited by `c`'s own copy when its source has been read; the send slot
  comes back.
* The receive cell of transfer `j` of `c`: credited by the copy of `peer s c`; the landing slot comes with the
  contents `sent (peer s c) j`.

The contents `sent` are a parameter here.
-/
module

public import proofs.«01_k».proof.Proof.Slots

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Partners -/

/-- A transfer: its stage and its column chunk. -/
abbrev J : Type := Fin 2 × Fin 4

set_option backward.proofsInPublic true in
/-- The partner at stage `s`. -/
def peer (s : Fin 2) (c : Dev nD) : Dev nD := if s = 0 then (![1, 0, 3, 2] : Fin 4 → Fin 4) c else (![3, 2, 1, 0] : Fin 4 → Fin 4) c

theorem peer_peer (s : Fin 2) (c : Dev nD) : peer s (peer s c) = c := by revert s c; decide

def peerEquiv (s : Fin 2) : Dev nD ≃ Dev nD := ⟨peer s, peer s, peer_peer s, peer_peer s⟩

set_option backward.proofsInPublic true in
/-- The stage whose partner `c` signals first: an even device's stage-1 partner precedes it on the ring, an odd
    device's stage-0 partner does. -/
def fst (c : Dev nD) : Fin 2 := (![1, 0, 1, 0] : Fin 4 → Fin 2) c
set_option backward.proofsInPublic true in
def snd (c : Dev nD) : Fin 2 := (![0, 1, 0, 1] : Fin 4 → Fin 2) c

theorem dev1_eq (c : Dev nD) : (⟨k0_dev1 c, k0_dev1_lt c⟩ : Dev nD) = peer (fst c) c :=
  Fin.ext ((k0_dev1_eq c).trans (by revert c; decide))
theorem dev2_eq (c : Dev nD) : (⟨k0_dev2 c, k0_dev2_lt c⟩ : Dev nD) = peer (snd c) c :=
  Fin.ext ((k0_dev2_eq c).trans (by revert c; decide))
theorem dev3_eq (c : Dev nD) : (⟨k0_dev3 c, k0_dev3_lt c⟩ : Dev nD) = peer 0 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 0 c := by revert c; decide +kernel
theorem dev6_eq (c : Dev nD) : (⟨k0_dev6 c, k0_dev6_lt c⟩ : Dev nD) = peer 0 c := by revert c; decide +kernel
theorem dev7_eq (c : Dev nD) : (⟨k0_dev7 c, k0_dev7_lt c⟩ : Dev nD) = peer 1 c :=
  Fin.ext ((k0_dev7_eq c).trans (by revert c; decide))
theorem dev8_eq (c : Dev nD) : (⟨k0_dev8 c, k0_dev8_lt c⟩ : Dev nD) = peer 1 c :=
  Fin.ext ((k0_dev8_eq c).trans (by revert c; decide))
theorem dev9_eq (c : Dev nD) : (⟨k0_dev9 c, k0_dev9_lt c⟩ : Dev nD) = peer 1 c :=
  Fin.ext ((k0_dev9_eq c).trans (by revert c; decide))
theorem dev10_eq (c : Dev nD) : (⟨k0_dev10 c, k0_dev10_lt c⟩ : Dev nD) = peer 1 c :=
  Fin.ext ((k0_dev10_eq c).trans (by revert c; decide))

/-! ## Semaphores and buffers -/

/-- A cell of a device: the barrier, or the send (`false`) or receive (`true`) cell of a transfer. -/
abbrev Cell : Type := Option (Bool × J)

abbrev barS : Sem sig := (SemArray.scalar (sig.barrier 0 rfl) : Sems sig S_).sem
abbrev sendS (j : J) : DmaSem sig := ⟨6 + 4 * j.1.val + j.2.val, by have := j.1.isLt; have := j.2.isLt; show _ < 22; omega⟩
abbrev recvS (j : J) : DmaSem sig := ⟨14 + 4 * j.1.val + j.2.val, by have := j.1.isLt; have := j.2.isLt; show _ < 22; omega⟩

def csem : Cell → SemLoc sig
  | none => .reg barS
  | some (false, j) => .dma (sendS j)
  | some (true, j) => .dma (recvS j)

/-- The transfer a semaphore number names, counted from the start of its array. -/
def jOf (n : ℕ) : J := (⟨n / 4 % 2, Nat.mod_lt _ (by decide)⟩, ⟨n % 4, Nat.mod_lt _ (by decide)⟩)

/-- The cell a semaphore is, if the kernel's. -/
def role : SemLoc sig → Option Cell
  | .reg s => if s = barS then some none else none
  | .dma q => if q.val < 6 then none else if q.val < 14 then some (some (false, jOf (q.val - 6))) else some (some (true, jOf (q.val - 14)))

theorem role_csem (x : Cell) : role (csem x) = some x := by revert x; decide

theorem csem_injective : Function.Injective csem := fun x y h => by
  have := congrArg role h; rw [role_csem, role_csem] at this; exact Option.some.inj this

abbrev gcell (c : Dev nD) (x : Cell) : GSem nD τ sig := ((c : Thread nD τ), csem x)
abbrev barC (c : Dev nD) : GSem nD τ sig := gcell c none
abbrev sendC (c : Dev nD) (j : J) : GSem nD τ sig := gcell c (some (false, j))
abbrev recvC (c : Dev nD) (j : J) : GSem nD τ sig := gcell c (some (true, j))

theorem gcell_inj {c c' : Dev nD} {x x' : Cell} (h : gcell c x = gcell c' x') : c = c' ∧ x = x' := by
  refine ⟨?_, csem_injective (congrArg Prod.snd h)⟩
  have := congrArg (fun g : GSem nD τ sig => g.1.1) h; exact this

/-- The buffers a stage sends from and lands in. -/
def sendM : Fin 2 → SlotMem
  | 0 => Memref.whole cc0_scratch1
  | 1 => Memref.whole cc0_scratch2
def recvM : Fin 2 → SlotMem
  | 0 => Memref.whole cc0_scratch3
  | 1 => Memref.whole cc0_scratch4

/-- The bytes of one slot, as a transfer credits them. -/
def N : ℕ := (((Memref.whole cc0_scratch3 : SlotMem).slice (rk 0) (fun _ => rfl)).squeeze S256x256 squeezes_S1x256x256_S256x256).view.dmaCredit
theorem N_pos : 0 < N := View.dmaCredit_pos _ (by decide)

/-! ## The schedule -/

section Sched

variable (sent : Dev nD → J → Vec F S1x256x256 .bf16)

/-- With the unit named `s` on the barrier of `c`: the landing buffer of stage `s` of `peer s c`. -/
def barPay (c : Dev nD) (s : Fin 2) : sProp 𝕄 := bigSep Finset.univ fun k : Fin 4 => slotFree (F := F) (peer s c) (recvM s) k

instance slotFree_storable (c : Dev nD) (M : SlotMem) (k : Fin 4) : BI.Storable (upEmb : UEmb _ 𝕄) (slotFree (F := F) c M k) := by
  unfold slotFree; infer_instance
instance slotAt_storable (c : Dev nD) (M : SlotMem) (k : Fin 4) (v : Vec F S1x256x256 .bf16) : BI.Storable (upEmb : UEmb _ 𝕄) (slotAt (F := F) c M k v) := by
  unfold slotAt; infer_instance
instance barPay_storable (c : Dev nD) (s : Fin 2) : BI.Storable (upEmb : UEmb _ 𝕄) (barPay (F := F) c s) := by
  unfold barPay; infer_instance

def cellDuties : Option Cell → Finset (Fin 2)
  | some none => Finset.univ
  | some (some _) => {0}
  | none => ∅

def cellAmount : Option Cell → ℕ
  | some (some _) => N
  | _ => 1

def cellPay (c : Dev nD) (d : Fin 2) : Option Cell → sProp 𝕄
  | some none => barPay c d
  | some (some (false, j)) => slotFree c (sendM j.1) j.2
  | some (some (true, j)) => slotAt c (recvM j.1) j.2 (sent (peer j.1 c) j)
  | none => iprop(emp)

def Rd : Rounds.Schedule (GSem nD τ sig) (Fin 2) 𝕄 where
  duties g r := if r = 0 ∧ g.1.2 = .tc then cellDuties (role g.2) else ∅
  unitless _ := False
  amount g _ _ := cellAmount (role g.2)
  payload g _ d := cellPay sent g.1.1 d (role g.2)
  amount_pos g _ _ _ := by
    rcases role g.2 with _ | _ | x
    · exact Nat.one_pos
    · exact Nat.one_pos
    · exact N_pos

instance Rd_payload_storable (g : GSem nD τ sig) (r : ℕ) (d : Fin 2) : BI.Storable (upEmb : UEmb _ 𝕄) ((Rd sent).payload g r d) := by
  show BI.Storable upEmb (cellPay sent g.1.1 d (role g.2))
  rcases role g.2 with _ | _ | ⟨_ | _, j⟩ <;> unfold cellPay <;> infer_instance

theorem duties_cell (c : Dev nD) (x : Cell) : (Rd sent).duties (gcell c x) 0 = cellDuties (some x) := by
  dsimp only [Rd]
  rw [if_pos ⟨rfl, rfl⟩, role_csem]
theorem duties_later (g : GSem nD τ sig) : ∀ r, 1 ≤ r → (Rd sent).duties g r = ∅ :=
  fun r hr => if_neg fun h => by omega
theorem amount_cell (c : Dev nD) (x : Cell) (d : Fin 2) : (Rd sent).amount (gcell c x) 0 d = cellAmount (some x) := by
  show cellAmount _ = _; rw [role_csem]
theorem payload_cell (c : Dev nD) (x : Cell) (d : Fin 2) : (Rd sent).payload (gcell c x) 0 d = cellPay sent c d (some x) := by
  show cellPay sent c d _ = _; rw [role_csem]

theorem expect_bar (c : Dev nD) : (Rd sent).expect (barC c) 0 = 2 := by
  unfold Schedule.expect Schedule.amountOf
  rw [duties_cell, Finset.sum_congr rfl fun d _ => amount_cell sent c none d]
  rfl
theorem expect_xfer (c : Dev nD) (x : Bool × J) : (Rd sent).expect (gcell c (some x)) 0 = N := by
  unfold Schedule.expect Schedule.amountOf
  rw [duties_cell, show cellDuties (some (some x)) = {0} from rfl, Finset.sum_singleton, amount_cell]; rfl

theorem rest_bar (c : Dev nD) :
    bigSep ((Rd sent).duties (barC c) 0 \ ∅) (fun d => (Rd sent).payload (barC c) 0 d) = bigSep Finset.univ fun s : Fin 2 => barPay (F := F) c s := by
  rw [Finset.sdiff_empty, duties_cell]
  exact congrArg _ (funext fun d => payload_cell sent c none d)
theorem rest_xfer (c : Dev nD) (x : Bool × J) :
    bigSep ((Rd sent).duties (gcell c (some x)) 0 \ ∅) (fun d => (Rd sent).payload (gcell c (some x)) 0 d) = cellPay sent c 0 (some (some x)) := by
  rw [Finset.sdiff_empty, duties_cell, show cellDuties (some (some x)) = {0} from rfl, bigSep_singleton, payload_cell]

end Sched

/-! ## What is owed, and the levels -/

/-- The credits of the transfers `S` that device `c` has still to issue, on its partners' receive cells. -/
def Osend (c : Dev nD) (S : Finset J) : CellTallies nD τ sig Unit := ∑ j ∈ S, tallyAt (recvC (peer j.1 c) j) () N

theorem Osend_erase (c : Dev nD) (S : Finset J) (j : J) (h : j ∈ S) : Osend c S = Osend c (S.erase j) + tallyAt (recvC (peer j.1 c) j) () N :=
  (Finset.sum_erase_add S _ h).symm
theorem Osend_empty (c : Dev nD) : Osend c ∅ = 0 := Finset.sum_empty

/-- At launch: all transfers, and a unit on each partner's barrier, the one signalled first last. -/
def O₁ (c : Dev nD) : CellTallies nD τ sig Unit := Osend c Finset.univ + tallyAt (barC (peer (snd c) c)) () 1
def O₀ (c : Dev nD) : CellTallies nD τ sig Unit := O₁ c + tallyAt (barC (peer (fst c) c)) () 1

def L (g : GSem nD τ sig) : Finset Unit := if g.1.2 = .tc then {()} else ∅
def cellLev : Option Cell → ℕ
  | some none => 1
  | some (some (true, j)) => 2 + j.1.val
  | _ => 0
/-- Barrier cells at 1, receive cells above them by stage, everything else at 0. -/
def lv (g : GSem nD τ sig) (_ : Unit) : ℕ := cellLev (role g.2)

theorem lv_cell (c : Dev nD) (x : Cell) (u : Unit) : lv (gcell c x) u = cellLev (some x) := by unfold lv; rw [role_csem]

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {n : ℕ} {u : Unit} (h : 0 < (tallyAt g' () n : CellTallies nD τ sig Unit) g u) : g = g' := by
  rw [tallyAt_apply] at h
  by_contra hn; rw [if_neg fun h' => hn h'.1] at h; exact Nat.lt_irrefl 0 h

theorem Osend_pos {c : Dev nD} {S : Finset J} {g : GSem nD τ sig} {u : Unit} (h : 0 < Osend c S g u) : ∃ j ∈ S, g = recvC (peer j.1 c) j := by
  unfold Osend at h
  rw [Finset.sum_apply, Finsupp.finset_sum_apply] at h
  obtain ⟨j, hj, hp⟩ := Finset.exists_ne_zero_of_sum_ne_zero (Nat.pos_iff_ne_zero.mp h)
  exact ⟨j, hj, tally_pos (Nat.pos_of_ne_zero hp)⟩

theorem O₀_pos {c : Dev nD} {g : GSem nD τ sig} {u : Unit} (h : 0 < O₀ c g u) : ∃ (d : Dev nD) (x : Cell), g = gcell d x ∧ 0 < cellLev (some x) := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨j, -, e⟩ := Osend_pos h
      exact ⟨_, _, e, by show 0 < 2 + _; omega⟩
    · exact ⟨_, _, tally_pos h, Nat.one_pos⟩
  · exact ⟨_, _, tally_pos h, Nat.one_pos⟩

/-- A wait on a cell below every receive cell still owed is permitted. -/
theorem mayWait_send (c : Dev nD) (x : Cell) (S : Finset J) (h : ∀ j ∈ S, cellLev (some x) < 2 + j.1.val) :
    (levAts L lv : sProp 𝕄) ⊢ MayWait (c : Thread nD τ) (csem x) () (Osend c S) :=
  MayOwe.of_cut (L := L) (lev := lv) (cellLev (some x)) (fun p hp => by rw [Finset.mem_singleton.mp hp, L_tc]; exact Finset.mem_singleton_self _)
    (fun g u hg => by obtain ⟨j, -, rfl⟩ := Osend_pos hg; exact Finset.mem_singleton_self _)
    (fun p hp => by rw [Finset.mem_singleton.mp hp]; exact le_of_eq (lv_cell c x ()))
    (fun g u hg => by obtain ⟨j, hj, rfl⟩ := Osend_pos hg; rw [lv_cell]; exact h j hj)

/-- A wait on a staging semaphore is permitted at launch and when nothing is owed. -/
theorem mayWait_stage (c : Dev nD) (q : DmaSem sig) (hq : cellLev (role (SemLoc.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, x, rfl, -⟩ := O₀_pos hg; exact Finset.mem_singleton_self _)
      (fun p hp => by rw [Finset.mem_singleton.mp hp]; exact le_of_eq hq)
      (fun g u hg => by obtain ⟨d, x, rfl, hx⟩ := O₀_pos hg; rw [lv_cell]; exact hx)
  · rw [MayWait_zero]; iintro -; iempintro

end Cert.AttnProof
-- ==== Proof.Contents.lean ====
/-
# What the kernel computes

From a device's blocks (the hidden states, its heads' columns of the three projections, its rows of the output
projection): the heads' attention, the array `oV` they make up, the device's partial products with four column
chunks of its output projection, and what is sent, accumulated and stored on every device.
-/
module

public import proofs.«01_k».proof.Proof.Protocol
public import Idealize.ShloMosaic.Lib.ValueIdxCore
public import proofs.«01_k».proof.Proof.Gen.KernelIdeal.Skeleton

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

/-- The columns of each head lie in the projection. -/
theorem head_slices (h : Fin 8) : S256x1024.Slices ![0, 128 * h.val] S256x128 := by revert h; decide
/-- The columns of each chunk lie in the output weights. -/
theorem chunk_slices (k : Fin 4) : S1024x1024.Slices ![0, 256 * k.val] S1024x256 := by revert k; decide

/-- A projection of the hidden states. -/
def proj (x : Vec F S1x256x1024 .bf16) (w : Vec F S1024x1024 .bf16) : FVec F S256x1024 .bf16 :=
  truncf .bf16 (matmul dot_S256x1024_S1024x1024_S256x1024_1_0_0_1_n_n none (shapeCast S256x1024 x shapeCasts_S1x256x1024_S256x1024 : FVec F S256x1024 .bf16)
    (shapeCast S1024x1024 w shapeCasts_S1024x1024_S1024x1024 : FVec F S1024x1024 .bf16) (constant S256x1024 .f32 0x00000000#32)) bitsLt_bf16_f32

/-- The unnormalised weights of head `h`: the exponentials of the scaled products of its queries and keys. -/
def weights (q k : FVec F S256x1024 .bf16) (h : Fin 8) : FVec F S256x256 .f32 :=
  exp (mulf (matmul dot_S256x128_S256x128_S256x256_1_1_0_0_n_n none (extractStridedSlice S256x128 ![0, 128 * h.val] q (head_slices h))
    (extractStridedSlice S256x128 ![0, 128 * h.val] k (head_slices h)) (constant S256x256 .f32 0x00000000#32)) (broadcast S256x256 (Scalar.ofBits .f32 0x3DB504F3#32)))

/-- The attention of head `h`: the weighted sums of its values over the sums of the weights. -/
def head (q k v : FVec F S256x1024 .bf16) (h : Fin 8) : FVec F S256x128 .bf16 :=
  truncf .bf16 (divf
    (matmul dot_S256x256_S256x128_S256x128_1_0_0_1_n_n none (truncf .bf16 (weights q k h) bitsLt_bf16_f32)
      (extractStridedSlice S256x128 ![0, 128 * h.val] v (head_slices h)) (constant S256x128 .f32 0x00000000#32))
    (broadcastTo S256x128 (shapeCast S256x1 (multiReduction .add [1] S256 (weights q k h) 0x00000000#32 reduces_S256x256_S256 (.inl rfl) rfl : FVec F S256 .f32) shapeCasts_S256_S256x1 : FVec F S256x1 .f32)
      broadcasts_S256x1_S256x128)) bitsLt_bf16_f32

/-- The heads' attention side by side. -/
def oV (q k v : FVec F S256x1024 .bf16) : Vec F S256x1024 .bf16 := fun i =>
  head q k v ⟨(i 1).val / 128, by have : (i 1).val < 1024 := (i 1).isLt; omega⟩ (ix2 (n0 := 256) (n1 := 128) (i 0) ⟨(i 1).val % 128, Nat.mod_lt _ (by omega)⟩)

/-- The partial product with column chunk `k` of the output projection. -/
def part (wo : Vec F S1024x1024 .bf16) (o : Vec F S256x1024 .bf16) (k : Fin 4) : FVec F S256x256 .f32 :=
  matmul dot_S256x1024_S1024x256_S256x256_1_0_0_1_n_n none (o : FVec F S256x1024 .bf16)
    (extractStridedSlice S1024x256 ![0, 256 * k.val] (shapeCast S1024x1024 wo shapeCasts_S1024x1024_S1024x1024 : FVec F S1024x1024 .bf16) (chunk_slices k)) (constant S256x256 .f32 0x00000000#32)

/-- What is sent of a partial sum: it rounded. -/
def packed (p : FVec F S256x256 .f32) : Vec F S1x256x256 .bf16 := shapeCast S1x256x256 (truncf .bf16 p bitsLt_bf16_f32 : FVec F S256x256 .bf16) shapeCasts_S256x256_S1x256x256
/-- A partial sum and what was received added. -/
def plus (p : FVec F S256x256 .f32) (r : Vec F S1x256x256 .bf16) : FVec F S256x256 .f32 :=
  addf p (extf .f32 (shapeCast S256x256 r shapeCasts_S1x256x256_S256x256 : FVec F S256x256 .bf16) bitsLt_bf16_f32)

section Devices
variable (X : Dev nD → Vec F S1x256x1024 .bf16) (Wq Wo Wk Wv : Dev nD → Vec F S1024x1024 .bf16)

/-- The attention of device `c`'s heads. -/
def oD (c : Dev nD) : Vec F S256x1024 .bf16 := oV (proj (X c) (Wq c)) (proj (X c) (Wk c)) (proj (X c) (Wv c))
/-- Device `c`'s partial product with chunk `k`. -/
def partD (c : Dev nD) (k : Fin 4) : FVec F S256x256 .f32 := part (Wo c) (oD X Wq Wk Wv c) k
/-- Chunk `k` on device `c` after the first exchange. -/
def accD (c : Dev nD) (k : Fin 4) : FVec F S256x256 .f32 := plus (partD X Wq Wo Wk Wv c k) (packed (partD X Wq Wo Wk Wv (peer 0 c) k))
/-- What device `c` sends in transfer `j`. -/
def sentD (c : Dev nD) (j : J) : Vec F S1x256x256 .bf16 := if j.1 = 0 then packed (partD X Wq Wo Wk Wv c j.2) else packed (accD X Wq Wo Wk Wv c j.2)
/-- Chunk `k` of the result on device `c`. -/
def outD (c : Dev nD) (k : Fin 4) : Vec F S1x256x256 .f32 :=
  shapeCast S1x256x256 (plus (accD X Wq Wo Wk Wv c k) (packed (accD X Wq Wo Wk Wv (peer 1 c) k)) : FVec F S256x256 .f32) shapeCasts_S256x256_S1x256x256
/-- The result on device `c`. -/
def resD (c : Dev nD) : Vec F S1x256x1024 .f32 := fun i =>
  outD X Wq Wo Wk Wv c ⟨(i 2).val / 256, by have : (i 2).val < 1024 := (i 2).isLt; omega⟩ (ix3 (n0 := 1) (n1 := 256) (n2 := 256) (i 0) (i 1) ⟨(i 2).val % 256, Nat.mod_lt _ (by omega)⟩)
end Devices

/-! ## The printed values are these -/
section Printed
variable (x : Vec F S1x256x1024 .bf16) (wq wk wv wo : Vec F S1024x1024 .bf16) (q k v : FVec F S256x1024 .bf16)

theorem pay3_eq : k0_pay3 x wq = proj x wq := rfl
theorem pay4_eq : k0_pay4 x wk = proj x wk := rfl
theorem pay5_eq : k0_pay5 (k0_pay1 x) (k0_pay2 wv) (constant S256x1024 .f32 0x00000000#32) = proj x wv := rfl
theorem pay6_eq (xs w cst) : k0_pay6 xs w q k cst = head q k (k0_pay5 xs w cst) 0 := shapeCast_self _ _
theorem pay7_eq (xs w cst) : k0_pay7 xs w q k cst = head q k (k0_pay5 xs w cst) 1 := shapeCast_self _ _
theorem pay10_eq : k0_pay10 v (k0_pay8 q k) (k0_pay9 q k) = head q k v 2 := shapeCast_self _ _
theorem pay11_eq : k0_pay11 q k v = head q k v 3 := shapeCast_self _ _
theorem pay13_eq : k0_pay13 (k0_pay12 q k v) = head q k v 4 := shapeCast_self _ _
theorem pay14_eq : k0_pay14 q k v = head q k v 5 := shapeCast_self _ _
theorem pay15_eq : k0_pay15 q k v = head q k v 6 := shapeCast_self _ _
theorem pay18_eq : k0_pay18 v (k0_pay16 q k) (k0_pay17 q k) = head q k v 7 := shapeCast_self _ _
end Printed

end Cert.AttnProof
-- ==== Proof.KernelValue.lean ====
/-
What the kernel computes, read at an element over the extended reals.
-/
module

public import proofs.«01_k».proof.Proof.Contents
public import Idealize.ShloMosaic.Lib.Pointwise
public import Idealize.ShloMosaic.Lib.Pointwise.IndexBridge

@[expose] public section

set_option maxRecDepth 16384

noncomputable section

namespace Cert.AttnProof

open Cert.KernelIdeal Cert.KernelIdeal.Gen
open Idealize.ShloMosaic

/-- The scale of the scores. -/
abbrev scale : EReal := Ideal.ofBits .f32 0x3DB504F3#32

variable (x : Vec Ideal S1x256x1024 .bf16) (w wo : Vec Ideal S1024x1024 .bf16) (q k v : FVec Ideal S256x1024 .bf16)

/-- A projection's element is the inner product of a row and a column. -/
theorem proj_at (i : Fin 256) (n : Fin 1024) :
    proj (F := Ideal) x w (ix2 i n) = ∑ d : Fin 1024, x (ix3 0 i d) * w (ix2 d n) := by
  pointwise [proj]

/-- A weight is the exponential of a scaled score. -/
theorem weights_at (h : Fin 8) (i j : Fin 256) :
    weights (F := Ideal) q k h (ix2 i j)
      = Ideal.exp ((∑ e : Fin 128, q (ix2 i ⟨128 * h.val + e.val, by omega⟩) * k (ix2 j ⟨128 * h.val + e.val, by omega⟩)) * scale) := by
  pointwise [weights]

/-- A head's element is a weighted sum of values over the sum of the weights. -/
theorem head_at (h : Fin 8) (i : Fin 256) (e : Fin 128) :
    head (F := Ideal) q k v h (ix2 i e)
      = Ideal.div (∑ j : Fin 256, weights (F := Ideal) q k h (ix2 i j) * v (ix2 j ⟨128 * h.val + e.val, by omega⟩))
          (∑ j : Fin 256, weights (F := Ideal) q k h (ix2 i j)) := by
  pointwise [head]

/-- A partial product's element is the inner product of a row of the heads and a column of the weights. -/
theorem part_at (o : Vec Ideal S256x1024 .bf16) (t : Fin 4) (i j : Fin 256) :
    part (F := Ideal) wo o t (ix2 i j) = ∑ n : Fin 1024, o (ix2 i n) * wo (ix2 n ⟨256 * t.val + j.val, by omega⟩) := by
  pointwise [part]

/-- Packing and adding is adding. -/
theorem plus_packed_at (p r : FVec Ideal S256x256 .f32) (i j : Fin 256) :
    plus (F := Ideal) p (packed (F := Ideal) r) (ix2 i j) = p (ix2 i j) + r (ix2 i j) := by
  pointwise [plus, packed]

variable (X : Dev nD → Vec Ideal S1x256x1024 .bf16) (Wq Wo Wk Wv : Dev nD → Vec Ideal S1024x1024 .bf16)

/-- An element of a device's heads is one of the head whose columns it lies in. -/
theorem oD_at (c : Dev nD) (i : Fin 256) (n : Fin 1024) :
    oD (F := Ideal) X Wq Wk Wv c (ix2 i n)
      = head (F := Ideal) (proj (X c) (Wq c)) (proj (X c) (Wk c)) (proj (X c) (Wv c)) ⟨n.val / 128, by omega⟩ (ix2 i ⟨n.val % 128, by omega⟩) := by
  rw [ix2_eq_valueIdx, ix2_eq_valueIdx]; rfl

/-- A result's element is the sum of four devices' partial products: the device's own, its first peer's, and the two of its second peer. -/
theorem resD_at (c : Dev nD) (i : Fin 256) (n : Fin 1024) (t : Fin 4) (j : Fin 256) (h : n.val = 256 * t.val + j.val) :
    resD (F := Ideal) X Wq Wo Wk Wv c (ix3 0 i n)
      = (partD (F := Ideal) X Wq Wo Wk Wv c t (ix2 i j) + partD (F := Ideal) X Wq Wo Wk Wv (peer 0 c) t (ix2 i j))
        + (partD (F := Ideal) X Wq Wo Wk Wv (peer 1 c) t (ix2 i j) + partD (F := Ideal) X Wq Wo Wk Wv (peer 0 (peer 1 c)) t (ix2 i j)) := by
  have ht : (⟨n.val / 256, by omega⟩ : Fin 4) = t := Fin.ext (by show n.val / 256 = t.val; omega)
  have hj : (⟨n.val % 256, by omega⟩ : Fin 256) = j := Fin.ext (by show n.val % 256 = j.val; omega)
  have hr : resD (F := Ideal) X Wq Wo Wk Wv c (ix3 0 i n)
      = outD (F := Ideal) X Wq Wo Wk Wv c ⟨n.val / 256, by omega⟩ (ix3 0 i ⟨n.val % 256, by omega⟩) := by
    rw [ix3_eq_valueIdx, ix3_eq_valueIdx]; rfl
  rw [hr, ht, hj]
  have ho : outD (F := Ideal) X Wq Wo Wk Wv c t (ix3 0 i j)
      = plus (F := Ideal) (accD X Wq Wo Wk Wv c t) (packed (accD X Wq Wo Wk Wv (peer 1 c) t)) (ix2 i j) := by
    pointwise [outD]
  rw [ho, plus_packed_at, accD, accD, plus_packed_at, plus_packed_at]

end Cert.AttnProof
-- ==== Proof.ReferenceValue.lean ====
/-
What the reference computes, read at an element over the extended reals.
-/
module

public import proofs.«01_k».proof.Proof.Gen.ReferenceIdeal.Run
public import Idealize.ShloMosaic.Lib.Pointwise

@[expose] public section

set_option maxRecDepth 16384

noncomputable section

namespace Cert.AttnProof

open Cert.ReferenceIdeal Cert.ReferenceIdeal.Gen Idealize.ShloMosaic.TcCoe
open Idealize.ShloMosaic

variable (x : FVec Ideal S1x256x1024 .bf16) (w : FVec Ideal S1024x4096 .bf16) (wo : FVec Ideal S4096x1024 .bf16)
variable (q k v : FVec Ideal S1x256x32x128 .bf16) (s : FVec Ideal S1x32x256x256 .f32) (m : FVec Ideal S1x32x256x1 .f32)

/-- A projection, its columns grouped by head. -/
def refProj : FVec Ideal S1x256x32x128 .bf16 :=
  shapeCast S1x256x32x128 (truncf .bf16 (Host.dotGeneral dot_S1x256x1024_S1024x4096_S1x256x4096_2_0_01_1_n_n none x w : FVec Ideal S1x256x4096 .f32) bitsLt_bf16_f32 : FVec Ideal S1x256x4096 .bf16) shapeCasts_S1x256x4096_S1x256x32x128

/-- The scaled scores. -/
def refScores : FVec Ideal S1x32x256x256 .f32 :=
  mulf (extf .f32 (truncf .bf16 (Host.dotGeneral dot_S1x256x32x128_S1x256x32x128_S1x32x256x256_3_3_1_1_02_02 none q k : FVec Ideal S1x32x256x256 .f32) bitsLt_bf16_f32 : FVec Ideal S1x32x256x256 .bf16) bitsLt_bf16_f32)
    (broadcastInDim S1x32x256x256 ![] bcast_S_S1x32x256x256 (constant S_ .f32 0x3DB504F3#32))

/-- The greatest score of each row. -/
def refMax : FVec Ideal S1x32x256x1 .f32 :=
  maximumf (broadcastInDim S1x32x256x1 ![] bcast_S_S1x32x256x1 (constant S_ .f32 0xFF800000#32))
    (broadcastInDim S1x32x256x1 ![0, 1, 2] bcast_S1x32x256_S1x32x256x1_0_1_2
      (Host.reduce FloatOps.maximumf s (constant S_ .f32 0xFF800000#32) reducesTo_S1x32x256x256_S1x32x256_d3 h_S_ : FVec Ideal S1x32x256 .f32))

/-- What the reference's running sums are first multiplied by. -/
def refAlpha : FVec Ideal S1x32x256x1 .f32 :=
  Host.exp (subf (broadcastInDim S1x32x256x1 ![] bcast_S_S1x32x256x1 (constant S_ .f32 0xFF800000#32)) m)

/-- The exponentials of the scores over the greatest. -/
def refExp : FVec Ideal S1x32x256x256 .f32 :=
  Host.exp (subf s (broadcastInDim S1x32x256x256 ![0, 1, 2, 3] bcast_S1x32x256x1_S1x32x256x256_0_1_2_3 m))

/-- The sums of the exponentials. -/
def refSum : FVec Ideal S1x32x256x1 .f32 :=
  addf (mulf (broadcastInDim S1x32x256x1 ![] bcast_S_S1x32x256x1 (constant S_ .f32 0x00000000#32)) (refAlpha m))
    (broadcastInDim S1x32x256x1 ![0, 1, 2] bcast_S1x32x256_S1x32x256x1_0_1_2
      (Host.reduceAdd (refExp s m) (constant S_ .f32 0x00000000#32) reducesTo_S1x32x256x256_S1x32x256_d3 h_S_ : FVec Ideal S1x32x256 .f32))

/-- The attention of every head. -/
def refAttn : FVec Ideal S1x256x32x128 .f32 :=
  Host.divf (addf (mulf (broadcastInDim S1x256x32x128 ![] bcast_S_S1x256x32x128 (constant S_ .f32 0x00000000#32))
      (broadcastInDim S1x256x32x128 ![0, 1, 2, 3] bcast_S1x256x32x1_S1x256x32x128_0_1_2_3 (transpose S1x256x32x1 [0, 2, 1, 3] (refAlpha m) transposes_S1x32x256x1_S1x256x32x1_0_2_1_3)))
      (transpose S1x256x32x128 [0, 3, 1, 2] (Host.dotGeneral dot_S1x256x32x128_S1x32x256x256_S1x32x128x256_1_3_3_2_02_01 none v (refExp s m) : FVec Ideal S1x32x128x256 .f32) transposes_S1x32x128x256_S1x256x32x128_0_3_1_2))
    (broadcastInDim S1x256x32x128 ![0, 1, 2, 3] bcast_S1x256x32x1_S1x256x32x128_0_1_2_3 (transpose S1x256x32x1 [0, 2, 1, 3] (refSum s m) transposes_S1x32x256x1_S1x256x32x1_0_2_1_3))

/-- The output projection of the heads side by side. -/
def refOut (a : FVec Ideal S1x256x32x128 .f32) : FVec Ideal S1x256x1024 .f32 :=
  Host.dotGeneral dot_S1x256x4096_S4096x1024_S1x256x1024_2_0_01_1_n_n none (shapeCast S1x256x4096 a shapeCasts_S1x256x32x128_S1x256x4096) wo

/-- The reference's result, by these stages. -/
def refRes (wq wk wv : FVec Ideal S1024x4096 .bf16) : FVec Ideal S1x256x1024 .f32 :=
  refOut wo (refAttn (refProj x wv) (refScores (refProj x wq) (refProj x wk)) (refMax (refScores (refProj x wq) (refProj x wk))))

/-- The printed result is the one by stages. -/
theorem res_eq (mem : (ℓ : Loc nD τ sig) → Buf (Elt Ideal) ℓ) (c : Dev nD) :
    Value.res_main_v39 (F := Ideal) mem c = refRes (mem ((c.tc : Thread nD τ).loc main_arg0)) (mem ((c.tc : Thread nD τ).loc main_arg4)) (mem ((c.tc : Thread nD τ).loc main_arg1)) (mem ((c.tc : Thread nD τ).loc main_arg2)) (mem ((c.tc : Thread nD τ).loc main_arg3)) := by
  delta refRes refOut refAttn refSum refExp refAlpha refMax refScores refProj Value.res_main_v39
  rfl

/-- A projection's element is the inner product of a row and a column. -/
theorem refProj_at (i : Fin 256) (g : Fin 32) (e : Fin 128) :
    refProj x w (ix4 0 i g e) = ∑ d : Fin 1024, x (ix3 0 i d) * w (ix2 d ⟨g.val * 128 + e.val, by omega⟩) := by
  pointwise [refProj]

/-- A score is a scaled inner product of a query and a key. -/
theorem refScores_at (g : Fin 32) (i j : Fin 256) :
    refScores q k (ix4 0 g i j) = (∑ e : Fin 128, q (ix4 0 i g e) * k (ix4 0 j g e)) * Ideal.ofBits .f32 0x3DB504F3#32 := by
  pointwise [refScores]

/-- A greatest score is a fold of the row's maximum. -/
theorem refMax_at (g : Fin 32) (i : Fin 256) :
    refMax s (ix4 0 g i 0) = max (Ideal.ofBits .f32 0xFF800000#32) (Finset.fold max (Ideal.ofBits .f32 0xFF800000#32) (fun j => s (ix4 0 g i j)) Finset.univ) := by
  pointwise [refMax]

/-- A head's element is a sum of values weighted by the exponentials over the sum of these, each sum starting at a multiple of zero. -/
theorem refAttn_at (i : Fin 256) (g : Fin 32) (e : Fin 128) :
    refAttn v s m (ix4 0 i g e)
      = Ideal.div (0 * refAlpha m (ix4 0 g i 0) + ∑ j : Fin 256, v (ix4 0 j g e) * Ideal.exp (s (ix4 0 g i j) - m (ix4 0 g i 0)))
          (0 * refAlpha m (ix4 0 g i 0) + ∑ j : Fin 256, Ideal.exp (s (ix4 0 g i j) - m (ix4 0 g i 0))) := by
  pointwise [refAttn, refSum, refAlpha, refExp]

/-- A result's element is the inner product of a row of the heads and a column of the output weights. -/
theorem refOut_at (a : FVec Ideal S1x256x32x128 .f32) (i : Fin 256) (n : Fin 1024) :
    refOut wo a (ix3 0 i n) = ∑ l : Fin 4096, a (ix4 0 i ⟨l.val / 128, by omega⟩ ⟨l.val % 128, by omega⟩) * wo (ix2 l n) := by
  pointwise [refOut]

end Cert.AttnProof
-- ==== Proof.Softmax.lean ====
/-
Finiteness among the extended reals, and a weighted mean by exponentials under a shift of its exponents.
-/
module

public import Idealize.ShloMosaic.PureOps.Ideal
public import Idealize.ShloMosaic.Lib.Pointwise

@[expose] public section

set_option maxRecDepth 16384

noncomputable section

namespace Cert.AttnProof

open Idealize.ShloMosaic

/-- An extended real that is a real number. -/
def IsReal (a : EReal) : Prop := ∃ r : ℝ, a = (r : EReal)

/-- A sum of two reals is real. -/
theorem IsReal.add {a b : EReal} : IsReal a → IsReal b → IsReal (a + b)
  | ⟨r, hr⟩, ⟨s, hs⟩ => ⟨r + s, by rw [hr, hs, EReal.coe_add]⟩

/-- A product of two reals is real. -/
theorem IsReal.mul {a b : EReal} : IsReal a → IsReal b → IsReal (a * b)
  | ⟨r, hr⟩, ⟨s, hs⟩ => ⟨r * s, by rw [hr, hs, EReal.coe_mul]⟩

/-- The greater of two reals is real. -/
theorem IsReal.max {a b : EReal} (ha : IsReal a) (hb : IsReal b) : IsReal (max a b) := by
  rcases max_choice a b with h | h <;> rw [h] <;> assumption

/-- A finite sum of reals is real. -/
theorem IsReal.sum {ι : Type} (t : Finset ι) {f : ι → EReal} (h : ∀ i, IsReal (f i)) : IsReal (∑ i ∈ t, f i) :=
  Finset.sum_induction f IsReal (fun _ _ => IsReal.add) ⟨0, by simp⟩ (fun i _ => h i)

/-- The greatest of finitely many reals, folded from the least extended real, is that least element or real. -/
theorem fold_max_real {ι : Type} [DecidableEq ι] (t : Finset ι) {f : ι → EReal} (h : ∀ i, IsReal (f i)) :
    (t = ∅ ∧ Finset.fold Max.max ⊥ f t = ⊥) ∨ IsReal (Finset.fold Max.max ⊥ f t) := by
  induction t using Finset.induction_on with
  | empty => exact .inl ⟨rfl, Finset.fold_empty⟩
  | insert i t hi ih =>
    right
    rw [Finset.fold_insert hi]
    rcases ih with ⟨_, ih⟩ | ih
    · rw [ih, max_eq_left bot_le]; exact h i
    · exact (h i).max ih

/-- An extended real whose absolute value is below infinity is real. -/
theorem isReal_of_abs_lt {a : EReal} (h : max a (-a) < ⊤) : IsReal a := by
  have h1 : a ≠ ⊤ := (lt_of_le_of_lt (le_max_left _ _) h).ne
  have h2 : a ≠ ⊥ := by
    rintro rfl
    simp at h
  exact ⟨a.toReal, (EReal.coe_toReal h1 h2).symm⟩

/-- A nonnegative real factor is drawn out of a sum of extended reals. -/
theorem sum_mul_real {ι : Type} (t : Finset ι) (f : ι → EReal) {c : ℝ} (hc : 0 ≤ c) :
    ∑ i ∈ t, f i * (c : EReal) = (∑ i ∈ t, f i) * (c : EReal) := by
  classical
  induction t using Finset.induction_on with
  | empty => simp
  | insert i t hi ih =>
    rw [Finset.sum_insert hi, Finset.sum_insert hi, ih,
      EReal.right_distrib_of_nonneg_of_ne_top (EReal.coe_nonneg.2 hc) (EReal.coe_ne_top c)]

/-- A sum of reals, taken among the extended reals. -/
theorem coe_sum_real {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- A weighted mean by exponentials does not change when a real is taken from every exponent: what the reference divides, having taken the
greatest score away, is what the kernel divides without. The values may be infinite. -/
theorem mean_shift {n : ℕ} [NeZero n] (S V : Fin n → EReal) (M a b : EReal) (hS : ∀ j, IsReal (S j)) (hM : IsReal M) :
    Ideal.div (0 * a + ∑ j, V j * Ideal.exp (S j - M)) (0 * b + ∑ j, Ideal.exp (S j - M))
      = Ideal.div (∑ j, Ideal.exp (S j) * V j) (∑ j, Ideal.exp (S j)) := by
  choose s hs using hS
  obtain ⟨m, rfl⟩ := hM
  obtain rfl : S = fun j => (s j : EReal) := funext hs
  have hc : 0 < Real.exp (-m) := Real.exp_pos _
  have hD : 0 < ∑ j, Real.exp (s j) := Finset.sum_pos (fun j _ => Real.exp_pos _) ⟨0, Finset.mem_univ _⟩
  have he (j : Fin n) : Ideal.exp ((s j : EReal) - (m : EReal)) = (Real.exp (s j) : EReal) * (Real.exp (-m) : EReal) := by
    rw [← EReal.coe_sub, ← EReal.coe_mul, ← Real.exp_add, ← sub_eq_add_neg]; rfl
  have hE (j : Fin n) : Ideal.exp (s j : EReal) = (Real.exp (s j) : EReal) := rfl
  simp only [zero_mul, zero_add, he, hE]
  rw [sum_mul_real _ _ hc.le, ← coe_sum_real, ← EReal.coe_mul]
  have hN : ∑ j, V j * ((Real.exp (s j) : EReal) * (Real.exp (-m) : EReal)) = (∑ j, (Real.exp (s j) : EReal) * V j) * (Real.exp (-m) : EReal) := by
    rw [← sum_mul_real _ _ hc.le]
    exact Finset.sum_congr rfl fun j _ => by rw [← mul_assoc, mul_comm (V j)]
  rw [hN, Ideal.div, Ideal.div, if_neg (EReal.coe_ne_zero.2 (mul_pos hD hc).ne'), if_neg (EReal.coe_ne_zero.2 hD.ne'),
    mul_assoc, ← EReal.coe_inv, ← EReal.coe_mul, ← EReal.coe_inv]
  congr 2
  field_simp

end Cert.AttnProof
-- ==== Proof.Join.lean ====
/-
The kernel's result equals the reference's: the heads one by one, then the sum over the devices.
-/
module

public import proofs.«01_k».proof.Proof.KernelValue
public import proofs.«01_k».proof.Proof.ReferenceValue
public import proofs.«01_k».proof.Proof.Softmax

@[expose] public section

set_option maxRecDepth 16384

noncomputable section

namespace Cert.AttnProof

open Cert.KernelIdeal Cert.KernelIdeal.Gen
open Idealize.ShloMosaic

/-- The scale is a real number. -/
theorem scale_real : IsReal scale := by
  unfold scale Ideal.ofBits Ideal.ieee
  dsimp only
  rw [if_neg (by decide), if_neg (by decide)]
  exact ⟨_, rfl⟩

/-- The word the greatest score is folded from is the least extended real. -/
theorem lowest : Ideal.ofBits .f32 0xFF800000#32 = ⊥ := by simp [Ideal.ofBits, Ideal.ieee]

/-- A sum over the rows of four blocks is the sum over all the rows. -/
theorem sum_blocks (f : Fin 4096 → EReal) :
    ∑ d : Fin 4, ∑ n : Fin 1024, f ⟨1024 * d.val + n.val, by omega⟩ = ∑ l : Fin 4096, f l := by
  rw [← Fintype.sum_prod_type' (fun (d : Fin 4) (n : Fin 1024) => f ⟨1024 * d.val + n.val, by omega⟩)]
  refine Fintype.sum_equiv (finProdFinEquiv (m := 4) (n := 1024)) _ _ fun p => congrArg f (Fin.ext ?_)
  show 1024 * p.1.val + p.2.val = p.2.val + 1024 * p.1.val
  omega

/-- Every device is met once among a device, its two peers and its second peer's first. -/
theorem sum_peers (f : Dev nD → EReal) (c : Dev nD) :
    (f c + f (peer 0 c)) + (f (peer 1 c) + f (peer 0 (peer 1 c))) = ∑ d : Fin 4, f d := by
  rw [Fin.sum_univ_four]
  change Fin 4 at c
  fin_cases c
  · show (f 0 + f 1) + (f 3 + f 2) = _; ac_rfl
  · show (f 1 + f 0) + (f 2 + f 3) = _; ac_rfl
  · show (f 2 + f 3) + (f 1 + f 0) = _; ac_rfl
  · show (f 3 + f 2) + (f 0 + f 1) = _; ac_rfl

section Join
variable (x : Vec Ideal S1x256x1024 .bf16) (wq wk wv : FVec Ideal Cert.ReferenceIdeal.S1024x4096 .bf16) (wo : FVec Ideal Cert.ReferenceIdeal.S4096x1024 .bf16)
variable (X : Dev nD → Vec Ideal S1x256x1024 .bf16) (Wq Wo Wk Wv : Dev nD → Vec Ideal S1024x1024 .bf16)

/-- Each device holds its block of the columns. -/
def ColBlocks (W : Dev nD → Vec Ideal S1024x1024 .bf16) (w : FVec Ideal Cert.ReferenceIdeal.S1024x4096 .bf16) : Prop :=
  ∀ (c : Dev nD) (d n : Fin 1024) (l : Fin 4096), l.val = 1024 * c.val + n.val → W c (ix2 d n) = w (ix2 d l)

/-- Each device holds its block of the rows. -/
def RowBlocks (W : Dev nD → Vec Ideal S1024x1024 .bf16) (w : FVec Ideal Cert.ReferenceIdeal.S4096x1024 .bf16) : Prop :=
  ∀ (c : Dev nD) (n j : Fin 1024) (l : Fin 4096), l.val = 1024 * c.val + n.val → W c (ix2 n j) = w (ix2 l j)

variable {x wq wk wv wo X Wq Wo Wk Wv}

/-- A device's projection is the reference's at the device's heads. -/
theorem proj_join {W : Dev nD → Vec Ideal S1024x1024 .bf16} {w : FVec Ideal Cert.ReferenceIdeal.S1024x4096 .bf16}
    (hX : ∀ c, X c = x) (hW : ColBlocks W w) (c : Dev nD) (h : Fin 8) (e : Fin 128) (g : Fin 32) (hg : g.val = 8 * c.val + h.val) (i : Fin 256) :
    proj (F := Ideal) (X c) (W c) (ix2 i ⟨128 * h.val + e.val, by omega⟩) = refProj x w (ix4 0 i g e) := by
  rw [proj_at, refProj_at, hX]
  refine Finset.sum_congr rfl fun d _ => congrArg (x (ix3 0 i d) * ·) (hW c d _ _ ?_)
  show g.val * 128 + e.val = 1024 * c.val + (128 * h.val + e.val)
  omega

/-- A weight of a device is the exponential of the reference's score. -/
theorem weights_join (hX : ∀ c, X c = x) (hq : ColBlocks Wq wq) (hk : ColBlocks Wk wk) (c : Dev nD) (h : Fin 8) (g : Fin 32)
    (hg : g.val = 8 * c.val + h.val) (i j : Fin 256) :
    weights (F := Ideal) (proj (X c) (Wq c)) (proj (X c) (Wk c)) h (ix2 i j) = Ideal.exp (refScores (refProj x wq) (refProj x wk) (ix4 0 g i j)) := by
  rw [weights_at, refScores_at]
  refine congrArg (fun a => Ideal.exp (a * scale)) (Finset.sum_congr rfl fun e _ => ?_)
  rw [proj_join hX hq c h e g hg, proj_join hX hk c h e g hg]

/-- Every score is real where the activations and the two weights are. -/
theorem scores_real (hx : ∀ i, IsReal (x i)) (hq : ∀ i, IsReal (wq i)) (hk : ∀ i, IsReal (wk i)) (g : Fin 32) (i j : Fin 256) :
    IsReal (refScores (refProj x wq) (refProj x wk) (ix4 0 g i j)) := by
  rw [refScores_at]
  refine (IsReal.sum _ fun e => ?_).mul scale_real
  rw [refProj_at, refProj_at]
  exact (IsReal.sum _ fun d => (hx _).mul (hq _)).mul (IsReal.sum _ fun d => (hx _).mul (hk _))

/-- The greatest score of a row is real. -/
theorem max_real {s : FVec Ideal Cert.ReferenceIdeal.S1x32x256x256 .f32} (hs : ∀ g i j, IsReal (s (ix4 0 g i j))) (g : Fin 32) (i : Fin 256) :
    IsReal (refMax s (ix4 0 g i 0)) := by
  rw [refMax_at, lowest, max_eq_right bot_le]
  rcases fold_max_real Finset.univ (hs g i) with ⟨h, _⟩ | h
  · exact absurd h (Finset.univ_nonempty.ne_empty)
  · exact h

/-- A device's heads are the reference's of the device's columns. -/
theorem heads_join (hX : ∀ c, X c = x) (hq : ColBlocks Wq wq) (hk : ColBlocks Wk wk) (hv : ColBlocks Wv wv)
    (fx : ∀ i, IsReal (x i)) (fq : ∀ i, IsReal (wq i)) (fk : ∀ i, IsReal (wk i)) (c : Dev nD) (i : Fin 256) (n : Fin 1024) (l : Fin 4096)
    (hl : l.val = 1024 * c.val + n.val) :
    oD (F := Ideal) X Wq Wk Wv c (ix2 i n)
      = refAttn (refProj x wv) (refScores (refProj x wq) (refProj x wk)) (refMax (refScores (refProj x wq) (refProj x wk)))
          (ix4 0 i ⟨l.val / 128, by omega⟩ ⟨l.val % 128, by omega⟩) := by
  have hg : l.val / 128 = 8 * c.val + n.val / 128 := by omega
  have he : l.val % 128 = n.val % 128 := by omega
  have hs := scores_real fx fq fk
  rw [oD_at, head_at, refAttn_at, mean_shift _ _ _ _ _ (hs _ i) (max_real hs _ i)]
  have hw (j : Fin 256) := weights_join hX hq hk c ⟨n.val / 128, by omega⟩ ⟨l.val / 128, by omega⟩ hg i j
  have hV (j : Fin 256) := proj_join hX hv c ⟨n.val / 128, by omega⟩ ⟨n.val % 128, by omega⟩ ⟨l.val / 128, by omega⟩ hg j
  simp only [hw, hV, he]

/-- What the kernel leaves on each device is what the reference computes from the whole weights. -/
theorem res_join (hX : ∀ c, X c = x) (hq : ColBlocks Wq wq) (hk : ColBlocks Wk wk) (hv : ColBlocks Wv wv) (ho : RowBlocks Wo wo)
    (fx : ∀ i, IsReal (x i)) (fq : ∀ i, IsReal (wq i)) (fk : ∀ i, IsReal (wk i)) (c : Dev nD) :
    resD (F := Ideal) X Wq Wo Wk Wv c = refRes x wo wq wk wv := by
  funext y
  idx_vars y
  obtain rfl : y0 = 0 := Subsingleton.elim _ _
  rw [resD_at X Wq Wo Wk Wv c y1 y2 ⟨y2.val / 256, by omega⟩ ⟨y2.val % 256, by omega⟩ (by show y2.val = 256 * (y2.val / 256) + y2.val % 256; omega),
    sum_peers (fun d => partD (F := Ideal) X Wq Wo Wk Wv d _ _) c, refRes, refOut_at, ← sum_blocks]
  refine Finset.sum_congr rfl fun d _ => ?_
  rw [partD, part_at]
  refine Finset.sum_congr rfl fun k _ => ?_
  rw [heads_join hX hq hk hv fx fq fk d y1 k ⟨1024 * d.val + k.val, by omega⟩ rfl, ho d k _ ⟨1024 * d.val + k.val, by omega⟩ rfl]
  congr 3
  exact Fin.ext (by show 256 * (y2.val / 256) + y2.val % 256 = y2.val; omega)

end Join

end Cert.AttnProof
-- ==== Proof.Value.lean ====
/-
The equation of the results, from how the arrays are dealt to the devices and what the precondition says of them.
-/
module

public import proofs.«01_k».proof.Defs
public import proofs.«01_k».proof.Proof.Join
public import Idealize.ShloMosaic.Lib.Layout

@[expose] public section

set_option maxRecDepth 16384

noncomputable section

namespace Cert.AttnProof

open Cert.KernelIdeal Cert.KernelIdeal.Gen
open Idealize.ShloMosaic

/-- The infinity the precondition compares with. -/
theorem highest : Ideal.ofBits .bf16 0x7F80#16 = ⊤ := by simp [Ideal.ofBits, Ideal.ieee]

/-- A comparison that holds says its order does. -/
theorem lt_of_cmp {a b : EReal} (h : Ideal.cmp .olt a b = 1#1) : a < b := by
  by_contra hn
  simp [Ideal.cmp, hn] at h

section Pre
variable [Cert.Pre_scores_finite_KernelIdeal.Facts]
variable (a0 : FVec Ideal S1x256x1024 .bf16) (a1 a2 a3 a4 : FVec Ideal S1024x1024 .bf16)

/-- Where the precondition holds the activations are real. -/
theorem pre_x (h : (Cert.Pre_scores_finite_KernelIdeal.fn (F := Ideal) a0 a1 a2 a3 a4).1 = fun _ => 1#1) (i : S1x256x1024.Idx) : IsReal (a0 i) := by
  have h := congrFun h i
  pointwise [Cert.Pre_scores_finite_KernelIdeal.fn] at h
  rw [highest] at h
  exact isReal_of_abs_lt (lt_of_cmp h)

/-- The query weights are. -/
theorem pre_wq (h : (Cert.Pre_scores_finite_KernelIdeal.fn (F := Ideal) a0 a1 a2 a3 a4).2.1 = fun _ => 1#1) (i : S1024x1024.Idx) : IsReal (a1 i) := by
  have h := congrFun h i
  pointwise [Cert.Pre_scores_finite_KernelIdeal.fn] at h
  rw [highest] at h
  exact isReal_of_abs_lt (lt_of_cmp h)

/-- The key weights are. -/
theorem pre_wk (h : (Cert.Pre_scores_finite_KernelIdeal.fn (F := Ideal) a0 a1 a2 a3 a4).2.2 = fun _ => 1#1) (i : S1024x1024.Idx) : IsReal (a2 i) := by
  have h := congrFun h i
  pointwise [Cert.Pre_scores_finite_KernelIdeal.fn] at h
  rw [highest] at h
  exact isReal_of_abs_lt (lt_of_cmp h)
end Pre

/-- Weights cut along the columns are held by column blocks. -/
theorem colBlocks_of_block {W : Dev nD → Vec Ideal S1024x1024 .bf16} {w : FVec Ideal Cert.ReferenceIdeal.S1024x4096 .bf16}
    (h : ∀ c : Dev nD, W c = Layout.block ⟨2, ![1024, 1024]⟩ ⟨2, ![1024, 4096]⟩ 1 4 c w) : ColBlocks W w := by
  intro c d n l hl
  rw [h c]
  refine congrArg w (funext fun b => Fin.ext ?_)
  rw [Layout.Tiles.idx_val]
  fin_cases b
  · rfl
  · show c.val * 1024 + n.val = l.val; omega

/-- Weights cut along the rows are held by row blocks. -/
theorem rowBlocks_of_block {W : Dev nD → Vec Ideal S1024x1024 .bf16} {w : FVec Ideal Cert.ReferenceIdeal.S4096x1024 .bf16}
    (h : ∀ c : Dev nD, W c = Layout.block ⟨2, ![1024, 1024]⟩ ⟨2, ![4096, 1024]⟩ 0 4 c w) : RowBlocks W w := by
  intro c n j l hl
  rw [h c]
  refine congrArg w (funext fun b => Fin.ext ?_)
  rw [Layout.Tiles.idx_val]
  fin_cases b
  · show c.val * 1024 + n.val = l.val; omega
  · rfl

/-- Weights held by column blocks are real where every block is. -/
theorem real_of_blocks {W : Dev nD → Vec Ideal S1024x1024 .bf16} {w : FVec Ideal Cert.ReferenceIdeal.S1024x4096 .bf16}
    (h : ColBlocks W w) (hr : ∀ c i, IsReal (W c i)) (i : Cert.ReferenceIdeal.S1024x4096.Idx) : IsReal (w i) := by
  idx_vars i
  have hc : i1.val / 1024 < 4 := by omega
  rw [← h (⟨i1.val / 1024, hc⟩ : Fin 4) i0 ⟨i1.val % 1024, by omega⟩ i1 (by show i1.val = 1024 * (i1.val / 1024) + i1.val % 1024; omega)]
  exact hr _ _

end Cert.AttnProof
-- ==== Proof.Steps.lean ====
/-
# One step of the protocol at a time

Each statement takes one operation of the kernel — a signal, the barrier's wait, a store into a send slot, the
issue of a transfer, the wait for a landing, a load of a landed slot, the wait for a send — from what the device
holds before it to what it holds after, for an arbitrary stage, chunk and program to follow. The memrefs,
semaphores and devices the program names are variables, equal to the protocol's.
-/
module

public import proofs.«01_k».proof.Proof.Protocol

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (sent : Dev nD → J → Vec F S1x256x256 .bf16) (K : Dev nD × Cell → ℕ)

/-- The invariants of every cell of every device, and that each has reached its round 0. -/
def records : sProp 𝕄 :=
  iprop((bigSep Finset.univ fun p : Dev nD × Cell => cellInv ER (Rd sent) (K p) (gcell p.1 p.2))
    ∗ bigSep Finset.univ fun p : Dev nD × Cell => reached ER (gcell p.1 p.2) 0)

instance records_persistent : BI.Persistent (records sent K) := by unfold records; infer_instance

theorem records_inv (c : Dev nD) (x : Cell) : records sent K ⊢ cellInv ER (Rd sent) (K (c, x)) (gcell c x) := by
  unfold records
  iintro ⟨H, -⟩
  iapply (show (bigSep Finset.univ fun p : Dev nD × Cell => (cellInv ER (Rd sent) (K p) (gcell p.1 p.2) : sProp 𝕄)) ⊢ cellInv ER (Rd sent) (K (c, x)) (gcell c x)
    from BI.bigSep_elim (Finset.mem_univ (c, x)))
  iexact H
theorem records_reached (c : Dev nD) (x : Cell) : records sent K ⊢ reached ER (gcell c x) 0 := by
  unfold records
  iintro ⟨-, H⟩
  iapply (show (bigSep Finset.univ fun p : Dev nD × Cell => (reached ER (gcell p.1 p.2) 0 : sProp 𝕄)) ⊢ reached ER (gcell c x) 0
    from BI.bigSep_elim (Finset.mem_univ (c, x)))
  iexact H

section Steps

variable (W : Waits sig Unit)

/-- A signal of a partner's barrier: the landing buffer of the stage goes with it. -/
theorem step_signal (c n : Dev nD) (s : Fin 2) (hn : n = peer s c) (sm : Sem sig) (hs : sm = barS) (a : ℕ) (ha : a = 1)
    (O₀ O : CellTallies nD τ sig Unit) (hO : O₀ = O + tallyAt (barC (peer s c)) () 1)
    {α : Type} {Q : α → sProp 𝕄} {k : PUnit → Prog (TpuEff nD τ sig (Elt F) Λ₀ .tc) α} :
    iprop(records sent K ∗ owes (c : Thread nD τ) O₀ W ∗ dutyTok ER (barC (peer s c)) 0 s
        ∗ bigSep Finset.univ fun k : Fin 4 => slotFree (F := F) c (recvM s) k)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sm a) k) Q) := by
  subst hn hs ha
  have hd : s ∈ (Rd sent).duties ((Dev.tc (peer s c) : Thread nD τ), SemLoc.reg barS) 0 := by
    rw [show (Rd sent).duties ((Dev.tc (peer s c) : Thread nD τ), SemLoc.reg barS) 0 = cellDuties (some none) from duties_cell sent (peer s c) none]
    exact Finset.mem_univ _
  iintro ⟨#HR, HO, Ht, Hb⟩ Hk
  iapply (Rounds.wp_signal 𝒱₀ ER (Rd sent) (c : Thread nD τ) none (dst := (Dev.tc (peer s c) : Thread nD τ)) (κ := K (peer s c, none))
      (d := s) (r := 0) hd
      (amount_cell sent (peer s c) none s) () O hO) $$ [HO Ht Hb] [Hk]
  · isplitr; · iapply (records_inv sent K (peer s c) none); iexact HR
    isplitl [HO]; · iexact HO
    isplitl [Ht]; · iexact Ht
    isplitl [Hb]
    · iapply (Entails.of_eq (show (bigSep Finset.univ fun k : Fin 4 => slotFree (F := F) c (recvM s) k) = (Rd sent).payload ((Dev.tc (peer s c) : Thread nD τ), SemLoc.reg barS) 0 s from by
        refine Eq.trans ?_ (payload_cell sent (peer s c) none s).symm
        unfold cellPay barPay; rw [peer_peer]))
      iexact Hb
    · iapply (records_reached sent K (peer s c) none); iexact HR
  · iexact Hk

/-- The barrier's wait: both partners' landing buffers come, and the barrier is spent. -/
theorem step_barrier (c : Dev nD) (sm : Sem sig) (hs : sm = barS) (a : ℕ) (ha : a = 2)
    {α : Type} {Q : α → sProp 𝕄} {k : PUnit → Prog (TpuEff nD τ sig (Elt F) Λ₀ .tc) α} :
    iprop(records sent K ∗ levAts L lv ∗ owes (c : Thread nD τ) (Osend c Finset.univ) W ∗ cred (tallyAt (barC c) () 2) ∗ atPos ER (barC c) 0 ∅ 0)
      ⊢ iprop(((owes (c : Thread nD τ) (Osend c Finset.univ) (insert (SemLoc.reg barS, ()) W) ∗ semVal (barC c) 0
              ∗ bigSep Finset.univ fun j : J => slotFree (F := F) (peer j.1 c) (recvM j.1) j.2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm a) k) Q) := by
  subst hs ha
  have he : 0 + 2 = (Rd sent).expect ((c : Thread nD τ), csem none) 0 := (expect_bar sent c).symm
  have hm := mayWait_send (F := F) c none Finset.univ (fun j _ => by show 1 < _; omega)
  iintro ⟨#HR, #Hlev, HO, Hc, Hat⟩ Hk
  iapply (Rounds.wp_wait_rest_token 𝒱₀ ER (Rd sent) (c : Thread nD τ) none (κ := K (c, none)) (sm := csem none)
      (wpE_semWait_eq 𝒱₀ (c : Thread nD τ) none Set.univ) (Set.mem_univ _) () (O := Osend c Finset.univ) (W := W) (R := 0) (m := 0) (T := ∅)
      he) $$ [HO Hc Hat]
  · isplitr; · iapply (records_inv sent K c none); iexact HR
    isplitl [Hc]; · iexact Hc
    isplitl [HO]; · iexact HO
    isplitr; · iapply hm; iexact Hlev
    iexact Hat
  iintro ⟨HO, Hat, -, Hpay⟩
  ihave Hp := (Entails.of_eq (rest_bar sent c)) $$ Hpay
  imod (Rounds.cell_close ER (Rd sent) (Set.mem_univ (K (c, none))) (fun h => h) (R := 0 + 1) (duties_later sent (barC c))) $$ [Hat] with Hz
  · isplitr; · iapply (records_inv sent K c none); iexact HR
    iexact Hat
  iapply Hk
  isplitl [HO]; · iexact HO
  isplitl [Hz]; · iexact Hz
  rw [bigSep_univ_prod]
  unfold barPay
  iexact Hp

/-- A wait for a landing or for a send: the cell's slot comes, and the cell is spent. -/
theorem step_wait (c : Dev nD) (x : Bool × J) (q : DmaSem sig) (hq : SemLoc.dma q = csem (some x)) (S : Finset J)
    (hS : ∀ j ∈ S, cellLev (some (some x)) < 2 + j.1.val)
    {sp sp' : Space} {e : EltTy} {src : Memref sig .tc sp S256x256 e} {dst : Memref sig .tc sp' S256x256 e} {hsrc : src.view.WordExact} {hdst : dst.view.WordExact} (hN : dst.view.dmaCredit = N)
    {α : Type} {Q : α → sProp 𝕄} {k : PUnit → Prog (TpuEff nD τ sig (Elt F) Λ₀ .tc) α} :
    iprop(records sent K ∗ levAts L lv ∗ owes (c : Thread nD τ) (Osend c S) W ∗ cred (tallyAt (gcell c (some x)) () N) ∗ atPos ER (gcell c (some x)) 0 ∅ 0)
      ⊢ iprop(((∃ W', owes (c : Thread nD τ) (Osend c S) W') ∗ semVal (gcell c (some x)) 0 ∗ cellPay sent c 0 (some (some x))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HR, #Hlev, HO, Hc, Hat⟩ Hk
  iapply (Rounds.wp_wait_rest_token 𝒱₀ ER (Rd sent) (c : Thread nD τ) none (κ := K (c, some x)) (sm := csem (some x))
      (by rw [← hq]; exact wpE_waitDma2_eq 𝒱₀ (c : Thread nD τ) none Set.univ) (Set.mem_univ _) () (O := Osend c S) (W := W) (R := 0) (m := 0) (T := ∅)
      (by rw [Nat.zero_add, hN]; exact (expect_xfer sent c x).symm)) $$ [HO Hc Hat]
  · isplitr; · iapply (records_inv sent K c (some x)); iexact HR
    isplitl [Hc]; · rw [hN]; iexact Hc
    isplitl [HO]; · iexact HO
    isplitr; · iapply (mayWait_send c (some x) S hS); iexact Hlev
    iexact Hat
  iintro ⟨HO, Hat, -, Hpay⟩
  ihave Hp := (Entails.of_eq (rest_xfer sent c x)) $$ Hpay
  imod (Rounds.cell_close ER (Rd sent) (Set.mem_univ (K (c, some x))) (fun h => h) (R := 0 + 1) (duties_later sent (gcell c (some x)))) $$ [Hat] with Hz
  · isplitr; · iapply (records_inv sent K c (some x)); iexact HR
    iexact Hat
  iapply Hk
  isplitl [HO]; · iexists _; iexact HO
  isplitl [Hz]; · iexact Hz
  iexact Hp

/-- The issue of a copy of 256 × 256 elements that pays the send and receive duties of transfer `j` (the receive cell
    being device `d`'s), for any source and destination whose landings make those duties' payloads. -/
theorem send_core (c d : Dev nD) (j : J) (src dst : Memref sig .tc .vmem S256x256 .bf16) (q q' : DmaSem sig)
    (hqs : SemLoc.dma q = csem (some (false, j))) (hqr : SemLoc.dma q' = csem (some (true, j)))
    {hsc : (dst : Memref sig (Dev.tc d : Thread nD τ).2.kind .vmem S256x256 .bf16).view.ref.isScScratch = false}
    {hsrc : src.view.WordExact} {hdst : dst.view.WordExact}
    {hsem : DmaTarget.Typed .vmem (.dma q') (.remote (Dev.tc d : Thread nD τ) (dst : Memref sig .tc .vmem S256x256 .bf16) (.dma q) hsc)}
    (hN : dst.view.amount (SemLoc.dma q' : SemLoc sig) = N)
    (fs : Buf (Elt F) (src.view.loc (c : Thread nD τ))) (fd : Buf (Elt F) (dst.view.loc (d : Thread nD τ)))
    (hpay₁ : (src.view.loc (c : Thread nD τ) ↦[src.view.set]{fullShare} fs : sProp 𝕄) ⊢ cellPay sent c 0 (some (some (false, j))))
    (hpay₂ : (dst.view.loc (d : Thread nD τ) ↦[dst.view.set]{fullShare} dst.view.write (Elt F) fd (src.view.read (Elt F) fs) Finset.univ : sProp 𝕄)
      ⊢ cellPay sent d 0 (some (some (true, j))))
    (O₀ O : CellTallies nD τ sig Unit) (hO : O₀ = O + tallyAt (recvC d j) () N)
    {α : Type} {Q : α → sProp 𝕄} {k : PUnit → Prog (TpuEff nD τ sig (Elt F) Λ₀ .tc) α} :
    iprop(records sent K ∗ owes (c : Thread nD τ) O₀ W ∗ (src.view.loc (c : Thread nD τ) ↦[src.view.set]{fullShare} fs)
        ∗ (dst.view.loc (d : Thread nD τ) ↦[dst.view.set]{fullShare} fd) ∗ dutyTok ER (sendC c j) 0 (0 : Fin 2) ∗ dutyTok ER (recvC d j) 0 (0 : Fin 2))
      ⊢ iprop((cred (tallyAt (sendC c j) () N) ∗ owes (c : Thread nD τ) O W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma q) hsc) (.dma q') hsrc hdst hsem) k) Q) := by
  have hd₁ : (0 : Fin 2) ∈ (Rd sent).duties ((c : Thread nD τ), SemLoc.dma q) 0 := by
    rw [hqs, show (Rd sent).duties ((c : Thread nD τ), csem (some (false, j))) 0 = cellDuties (some (some (false, j))) from duties_cell sent c _]
    exact Finset.mem_singleton_self _
  have hd₂ : (0 : Fin 2) ∈ (Rd sent).duties ((Dev.tc d : Thread nD τ), SemLoc.dma q') 0 := by
    rw [hqr, show (Rd sent).duties ((Dev.tc d : Thread nD τ), csem (some (true, j))) 0 = cellDuties (some (some (true, j))) from duties_cell sent _ _]
    exact Finset.mem_singleton_self _
  have hk₁ : (Rd sent).amount ((c : Thread nD τ), SemLoc.dma q) 0 0 = N := by rw [hqs]; exact amount_cell sent c (some (false, j)) 0
  have hk₂ : (Rd sent).amount ((Dev.tc d : Thread nD τ), SemLoc.dma q') 0 0 = N := by rw [hqr]; exact amount_cell sent d (some (true, j)) 0
  have hO' : O₀ = O + tallyAt ((Dev.tc d : Thread nD τ), SemLoc.dma q') () N := by rw [hqr]; exact hO
  have hp₁ : cellPay sent c 0 (some (some (false, j))) ⊢ (Rd sent).payload ((c : Thread nD τ), SemLoc.dma q) 0 0 := Entails.of_eq (by
    rw [hqs]; exact (payload_cell sent c (some (false, j)) 0).symm)
  have hp₂ : cellPay sent d 0 (some (some (true, j))) ⊢ (Rd sent).payload ((Dev.tc d : Thread nD τ), SemLoc.dma q') 0 0 := Entails.of_eq (by
    rw [hqr]; exact (payload_cell sent d (some (true, j)) 0).symm)
  have key := Rounds.wp_send_pointsTo (defs := defs₀ (F := F)) (Q := Q) (k := k) 𝒱₀ ER (Rd sent) (c : Thread nD τ) none (κ₁ := K (c, some (false, j))) (κ₂ := K (d, some (true, j)))
    (c' := (Dev.tc d : Thread nD τ)) (src := src) (dst := dst) (hsc := hsc) (hsrc := hsrc) (hdst := hdst) (hsem := hsem)
    (r₁ := 0) (r₂ := 0) (d₁ := 0) (d₂ := 0) (fd := fd) (fs := fs) (q := fullShare) hd₁ hd₂
    () () N hN hk₁ hk₂ O hO' (W := W) (hpay₁.trans hp₁) (hpay₂.trans hp₂) (Es := Set.univ) (Γ := PendingWaitsCtx.empty)
  iintro ⟨#HR, HO, Hs, Hd, Hts, Htr⟩ Hk
  iapply key $$ [HO Hs Hd Hts Htr] [Hk]
  · rw [hqs, hqr]
    isplitr; · iapply (records_inv sent K c (some (false, j))); iexact HR
    isplitr; · iapply (records_inv sent K d (some (true, j))); iexact HR
    isplitl [Hs]; · iexact Hs
    isplitl [Hd]; · iexact Hd
    isplitl [HO]; · iexact HO
    isplitl [Hts]; · iexact Hts
    isplitr; · iapply (records_reached sent K c (some (false, j))); iexact HR
    isplitl [Htr]; · iexact Htr
    iapply (records_reached sent K d (some (true, j))); iexact HR
  · rw [hqs]; iexact Hk

/-- The issue of transfer `j`: the send slot holding what is to be sent, and the partner's landing slot, go with it. -/
theorem step_send (c n : Dev nD) (j : J) (hn : n = peer j.1 c) (S : Finset J) (hj : j ∈ S)
    (M M' : SlotMem) (hM : M = sendM j.1) (hM' : M' = recvM j.1) (off : Fin 3 → ℕ) (ho : off = ![j.2.val, 0, 0])
    (inb : ∀ a, off a + S1x256x256.size a ≤ S4x256x256.size a) (hq hq' : S1x256x256.Squeezes S256x256)
    (h h' : ∀ a, (Rect.unit (s := S4x256x256) off S1x256x256.size inb).stride a = 1)
    (q q' : DmaSem sig) (hqs : SemLoc.dma q = csem (some (false, j))) (hqr : SemLoc.dma q' = csem (some (true, j)))
    {hsc : ((M'.slice (Rect.unit (s := S4x256x256) off S1x256x256.size inb) h').squeeze S256x256 hq' : Memref sig (Dev.tc n : Thread nD τ).2.kind .vmem S256x256 .bf16).view.ref.isScScratch = false}
    {hsrc : ((M.slice (Rect.unit (s := S4x256x256) off S1x256x256.size inb) h).squeeze S256x256 hq).view.WordExact}
    {hdst : ((M'.slice (Rect.unit (s := S4x256x256) off S1x256x256.size inb) h').squeeze S256x256 hq').view.WordExact}
    {hsem : DmaTarget.Typed .vmem (.dma q') (.remote (Dev.tc n : Thread nD τ) ((M'.slice (Rect.unit (s := S4x256x256) off S1x256x256.size inb) h').squeeze S256x256 hq' : Memref sig .tc .vmem S256x256 .bf16) (.dma q) hsc)}
    {α : Type} {Q : α → sProp 𝕄} {k : PUnit → Prog (TpuEff nD τ sig (Elt F) Λ₀ .tc) α} :
    iprop(records sent K ∗ owes (c : Thread nD τ) (Osend c S) W ∗ slotAt c (sendM j.1) j.2 (sent c j) ∗ slotFree (F := F) (peer j.1 c) (recvM j.1) j.2
        ∗ dutyTok ER (sendC c j) 0 (0 : Fin 2) ∗ dutyTok ER (recvC (peer j.1 c) j) 0 (0 : Fin 2))
      ⊢ iprop((cred (tallyAt (sendC c j) () N) ∗ owes (c : Thread nD τ) (Osend c (S.erase j)) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((M.slice (Rect.unit (s := S4x256x256) off S1x256x256.size inb) h).squeeze S256x256 hq)
                (.remote (Dev.tc n : Thread nD τ) ((M'.slice (Rect.unit (s := S4x256x256) off S1x256x256.size inb) h').squeeze S256x256 hq') (.dma q) hsc) (.dma q') hsrc hdst hsem) k) Q) := by
  subst hn ho
  have hp₁ : slotFree (F := F) c M j.2 ⊢ cellPay sent c 0 (some (some (false, j))) := Entails.of_eq (by rw [hM]; rfl)
  have hp₂ : slotAt (peer j.1 c) M' j.2 (sent c j) ⊢ cellPay sent (peer j.1 c) 0 (some (some (true, j))) := Entails.of_eq (by
    rw [hM']; dsimp only [cellPay]; rw [peer_peer])
  rw [← hM, ← hM']
  iintro ⟨#HR, HO, Hs, Hd, Hts, Htr⟩ Hk
  unfold slotAt
  icases Hs with ⟨%fs, %hfs, Hs⟩
  have hpay₁ : ((((M.slice (rk j.2) h).squeeze S256x256 hq).view.loc (c : Thread nD τ) ↦[((M.slice (rk j.2) h).squeeze S256x256 hq).view.set]{fullShare} fs) : sProp 𝕄)
      ⊢ cellPay sent c 0 (some (some (false, j))) := by
    refine BIBase.Entails.trans ?_ hp₁
    rw [squeeze_pts]; unfold slotFree
    iintro H; iexists fs; iexact H
  unfold slotFree
  icases Hd with ⟨%fd, Hd⟩
  ihave Hs := (Entails.of_eq (squeeze_pts (F := F) c M j.2 h hq fs).symm) $$ Hs
  ihave Hd := (Entails.of_eq (squeeze_pts (F := F) (peer j.1 c) M' j.2 h' hq' fd).symm) $$ Hd
  iapply (send_core sent K W c (peer j.1 c) j ((M.slice (rk j.2) h).squeeze S256x256 hq) ((M'.slice (rk j.2) h').squeeze S256x256 hq') q q' hqs hqr
    rfl fs fd hpay₁ (BIBase.Entails.trans (landing (peer j.1 c) M M' j.2 h h' hq (sent c j) fd fs hfs) hp₂) (Osend c S) (Osend c (S.erase j)) (Osend_erase c S j hj))
    $$ [HO Hs Hd Hts Htr] Hk
  isplitr; · iexact HR
  isplitl [HO]; · iexact HO
  isplitl [Hs]; · iexact Hs
  isplitl [Hd]; · iexact Hd
  isplitl [Hts]; · iexact Hts
  iexact Htr

/-- A load of a slot reads what the slot holds. -/
theorem step_load (c : Dev nD) (M₀ M : SlotMem) (hM : M = M₀) (i : Fin 4) (v : Vec F S1x256x256 .bf16) (off : Fin 3 → ℕ) (ho : off = ![i.val, 0, 0])
    (inb : ∀ a, off a + S1x256x256.size a ≤ S4x256x256.size a)
    {hl : M.view.LoadsAt (Rect.unit (s := S4x256x256) off S1x256x256.size inb).toLoadRect}
    {α : Type} {Q : α → sProp 𝕄} {k : Vec F S1x256x256 .bf16 → Prog (TpuEff nD τ sig (Elt F) Λ₀ .tc) α} :
    slotAt c M₀ i v ⊢ iprop((slotAt c M₀ i v -∗ wp frame (wpE (defs₀ (F := F)) 𝒱₀ (c : Thread nD τ) none) Set.univ (k v) Q)
      -∗ wp frame (wpE (defs₀ (F := F)) 𝒱₀ (c : Thread nD τ) none) Set.univ (.op (.load M (Rect.unit (s := S4x256x256) off S1x256x256.size inb).toLoadRect hl) k) Q) := by
  subst hM ho
  unfold slotAt
  iintro ⟨%f, %hf, H⟩ Hk
  subst hf
  iapply (wp_load_rect 𝒱₀ (c : Thread nD τ) none Set.univ (m := M) (r := rk i) (Finset.Subset.refl _)) $$ H
  iintro H
  iapply Hk
  iexists f
  isplitr; · ipureintro; rfl
  iexact H

/-- A load of a slot whose value is not used. -/
theorem step_loadFree (c : Dev nD) (M₀ M : SlotMem) (hM : M = M₀) (i : Fin 4) (off : Fin 3 → ℕ) (ho : off = ![i.val, 0, 0])
    (inb : ∀ a, off a + S1x256x256.size a ≤ S4x256x256.size a)
    {hl : M.view.LoadsAt (Rect.unit (s := S4x256x256) off S1x256x256.size inb).toLoadRect}
    {α : Type} {Q : α → sProp 𝕄} {k : Vec F S1x256x256 .bf16 → Prog (TpuEff nD τ sig (Elt F) Λ₀ .tc) α} :
    slotFree (F := F) c M₀ i ⊢ iprop((∀ v, slotFree (F := F) c M₀ i -∗ wp frame (wpE (defs₀ (F := F)) 𝒱₀ (c : Thread nD τ) none) Set.univ (k v) Q)
      -∗ wp frame (wpE (defs₀ (F := F)) 𝒱₀ (c : Thread nD τ) none) Set.univ (.op (.load M (Rect.unit (s := S4x256x256) off S1x256x256.size inb).toLoadRect hl) k) Q) := by
  subst hM ho
  unfold slotFree
  iintro ⟨%f, H⟩ Hk
  iapply (wp_load_rect 𝒱₀ (c : Thread nD τ) none Set.univ (m := M) (r := rk i) (Finset.Subset.refl _)) $$ H
  iintro H
  iapply Hk
  iexists f
  iexact H

/-- A store into a slot. -/
theorem step_store (c : Dev nD) (M₀ M : SlotMem) (hM : M = M₀) (i : Fin 4) (off : Fin 3 → ℕ) (ho : off = ![i.val, 0, 0])
    (inb : ∀ a, off a + S1x256x256.size a ≤ S4x256x256.size a) (w : Vec F S1x256x256 .bf16)
    {hx : (M.access (Rect.unit (s := S4x256x256) off S1x256x256.size inb)).Stores Finset.univ} {hm}
    {α : Type} {Q : α → sProp 𝕄} {k : PUnit → Prog (TpuEff nD τ sig (Elt F) Λ₀ .tc) α} :
    slotFree (F := F) c M₀ i ⊢ iprop((slotAt c M₀ i w -∗ wp frame (wpE (defs₀ (F := F)) 𝒱₀ (c : Thread nD τ) none) Set.univ (k ⟨⟩) Q)
      -∗ wp frame (wpE (defs₀ (F := F)) 𝒱₀ (c : Thread nD τ) none) Set.univ
        (.op (.store M (Rect.unit (s := S4x256x256) off S1x256x256.size inb) w Finset.univ hx hm) k) Q) := by
  subst hM ho
  unfold slotFree slotAt
  iintro ⟨%f, H⟩ Hk
  have hv := View.read_write_univ (v := M.access (rk i)) (Val := Elt F) f w
  iapply (wp_store 𝒱₀ (c : Thread nD τ) none Set.univ (m := M) (r := rk i) (Mk := Finset.univ) (View.setOn_subset_set _ _)) $$ H
  iintro H
  iapply Hk
  iexists (M.access (rk i)).write (Elt F) f w Finset.univ
  isplitr; · ipureintro; exact hv
  iexact H

end Steps

end Cert.AttnProof
-- ==== Proof.Transfers.lean ====
/-
# One transfer at a time

The kernel's operations come in runs that concern one transfer `j`: fill its send slot and issue it; wait for its
landing and read what landed; wait until its source has been read. Each is one statement here, between what the
device holds for transfer `j` before and after.
-/
module

public import proofs.«01_k».proof.Proof.Steps

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sent : Dev nD → J → Vec F S1x256x256 .bf16) (K : Dev nD × Cell → ℕ)

/-- What device `c` still owes, with some record of its waits. -/
def owing (c : Dev nD) (S : Finset J) : sProp 𝕄 := iprop(∃ W, owes (c : Thread nD τ) (Osend c S) W)

/-- Before transfer `j` is issued: its send slot, the right to its two duties, its send cell. -/
def ready (c : Dev nD) (j : J) : sProp 𝕄 :=
  iprop(slotFree (F := F) c (sendM j.1) j.2 ∗ dutyTok ER (sendC c j) 0 (0 : Fin 2) ∗ dutyTok ER (recvC (peer j.1 c) j) 0 (0 : Fin 2) ∗ atPos ER (sendC c j) 0 ∅ 0)
/-- The partner's landing slot of transfer `j`. -/
def target (c : Dev nD) (j : J) : sProp 𝕄 := slotFree (F := F) (peer j.1 c) (recvM j.1) j.2
/-- Once transfer `j` is issued: the credit with which to wait for its source. -/
def issued (c : Dev nD) (j : J) : sProp 𝕄 := iprop(cred (tallyAt (sendC c j) () N) ∗ atPos ER (sendC c j) 0 ∅ 0)
/-- Once its source is read: the send slot back, the cell spent. -/
def returned (c : Dev nD) (j : J) : sProp 𝕄 := iprop(semVal (sendC c j) 0 ∗ slotFree (F := F) c (sendM j.1) j.2)
/-- Before the partner's transfer `j` has landed: the credit with which to wait for it. -/
def expecting (c : Dev nD) (j : J) : sProp 𝕄 := iprop(cred (tallyAt (recvC c j) () N) ∗ atPos ER (recvC c j) 0 ∅ 0)
/-- Once it has: the landing slot, the cell spent. -/
def landed (c : Dev nD) (j : J) : sProp 𝕄 := iprop(semVal (recvC c j) 0 ∗ slotFree (F := F) c (recvM j.1) j.2)

/-- Fill the send slot of transfer `j` with what is to be sent and issue it. -/
theorem run_send (c n : Dev nD) (j : J) (hn : n = peer j.1 c) (S : Finset J) (hj : j ∈ S)
    (M M' : SlotMem) (hM : M = sendM j.1) (hM' : M' = recvM j.1) (off : Fin 3 → ℕ) (ho : off = ![j.2.val, 0, 0])
    (inb : ∀ a, off a + S1x256x256.size a ≤ S4x256x256.size a) (hq hq' : S1x256x256.Squeezes S256x256)
    (h h' : ∀ a, (Rect.unit (s := S4x256x256) off S1x256x256.size inb).stride a = 1)
    (w : Vec F S1x256x256 .bf16) (hw : w = sent c j)
    (q q' : DmaSem sig) (hqs : SemLoc.dma q = csem (some (false, j))) (hqr : SemLoc.dma q' = csem (some (true, j)))
    {hl : M.view.LoadsAt (Rect.unit (s := S4x256x256) off S1x256x256.size inb).toLoadRect}
    {hx : (M.access (Rect.unit (s := S4x256x256) off S1x256x256.size inb)).Stores Finset.univ} {hm}
    {hsc : ((M'.slice (Rect.unit (s := S4x256x256) off S1x256x256.size inb) h').squeeze S256x256 hq' : Memref sig (Dev.tc n : Thread nD τ).2.kind .vmem S256x256 .bf16).view.ref.isScScratch = false}
    {hsrc : ((M.slice (Rect.unit (s := S4x256x256) off S1x256x256.size inb) h).squeeze S256x256 hq).view.WordExact}
    {hdst : ((M'.slice (Rect.unit (s := S4x256x256) off S1x256x256.size inb) h').squeeze S256x256 hq').view.WordExact}
    {hsem : DmaTarget.Typed .vmem (.dma q') (.remote (Dev.tc n : Thread nD τ) ((M'.slice (Rect.unit (s := S4x256x256) off S1x256x256.size inb) h').squeeze S256x256 hq' : Memref sig .tc .vmem S256x256 .bf16) (.dma q) hsc)}
    {α : Type} {Q : α → sProp 𝕄} {k : PUnit → Prog (TpuEff nD τ sig (Elt F) Λ₀ .tc) α} :
    iprop(records sent K ∗ owing (F := F) c S ∗ ready (F := F) c j ∗ target (F := F) c j)
      ⊢ iprop((owing (F := F) c (S.erase j) ∗ issued (F := F) c j
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load M (Rect.unit (s := S4x256x256) off S1x256x256.size inb).toLoadRect hl) fun _ =>
                .op (.store M (Rect.unit (s := S4x256x256) off S1x256x256.size inb) w Finset.univ hx hm) fun _ =>
                .op (.enqueueDma ((M.slice (Rect.unit (s := S4x256x256) off S1x256x256.size inb) h).squeeze S256x256 hq)
                (.remote (Dev.tc n : Thread nD τ) ((M'.slice (Rect.unit (s := S4x256x256) off S1x256x256.size inb) h').squeeze S256x256 hq') (.dma q) hsc) (.dma q') hsrc hdst hsem) k) Q) := by
  unfold ready target issued owing
  iintro ⟨#HR, ⟨%W, HO⟩, ⟨Hs, Hts, Htr, Hat⟩, Hd⟩ Hk
  iapply (step_loadFree c (sendM j.1) M hM j.2 off ho inb) $$ Hs
  iintro %v Hs
  iapply (step_store c (sendM j.1) M hM j.2 off ho inb w) $$ Hs
  iintro Hs
  iapply (step_send sent K W c n j hn S hj M M' hM hM' off ho inb hq hq' h h' q q' hqs hqr) $$ [HO Hs Hd Hts Htr]
  · isplitr; · iexact HR
    isplitl [HO]; · iexact HO
    isplitl [Hs]; · rw [← hw]; iexact Hs
    isplitl [Hd]; · iexact Hd
    isplitl [Hts]; · iexact Hts
    iexact Htr
  iintro ⟨Hc, HO⟩
  iapply Hk
  isplitl [HO]; · iexists W; iexact HO
  isplitl [Hc]; · iexact Hc
  iexact Hat

/-- Wait for the partner's transfer `j` and read what it sent. -/
theorem run_recv (c : Dev nD) (j : J) (S : Finset J) (hS : ∀ i ∈ S, j.1.val < i.1.val)
    (M : SlotMem) (hM : M = recvM j.1) (off : Fin 3 → ℕ) (ho : off = ![j.2.val, 0, 0])
    (inb : ∀ a, off a + S1x256x256.size a ≤ S4x256x256.size a)
    (q : DmaSem sig) (hq : SemLoc.dma q = csem (some (true, j)))
    {sp sp' : Space} {e : EltTy} {src : Memref sig .tc sp S256x256 e} {dst : Memref sig .tc sp' S256x256 e} {hsrc : src.view.WordExact} {hdst : dst.view.WordExact} (hN : dst.view.dmaCredit = N)
    {hl : M.view.LoadsAt (Rect.unit (s := S4x256x256) off S1x256x256.size inb).toLoadRect}
    {α : Type} {Q : α → sProp 𝕄} {k : Vec F S1x256x256 .bf16 → Prog (TpuEff nD τ sig (Elt F) Λ₀ .tc) α} :
    iprop(records sent K ∗ levAts L lv ∗ owing (F := F) c S ∗ expecting (F := F) c j)
      ⊢ iprop((owing (F := F) c S ∗ landed (F := F) c j
            -∗ wp frame (wpE (defs₀ (F := F)) 𝒱₀ (c : Thread nD τ) none) Set.univ (k (sent (peer j.1 c) j)) Q)
          -∗ wp frame (wpE (defs₀ (F := F)) 𝒱₀ (c : Thread nD τ) none) Set.univ
            (.op (.waitDma2 q src dst hsrc hdst) fun _ => .op (.load M (Rect.unit (s := S4x256x256) off S1x256x256.size inb).toLoadRect hl) k) Q) := by
  unfold expecting landed owing
  iintro ⟨#HR, #Hlev, ⟨%W, HO⟩, Hc, Hat⟩ Hk
  iapply (step_wait sent K W c (true, j) q hq S (fun i hi => by have := hS i hi; show 2 + _ < _; omega) hN) $$ [HO Hc Hat]
  · isplitr; · iexact HR
    isplitr; · iexact Hlev
    isplitl [HO]; · iexact HO
    isplitl [Hc]; · iexact Hc
    iexact Hat
  iintro ⟨HO, Hz, Hs⟩
  dsimp only [cellPay]
  iapply (step_load c (recvM j.1) M hM j.2 (sent (peer j.1 c) j) off ho inb) $$ Hs
  iintro Hs
  iapply Hk
  isplitl [HO]; · iexact HO
  isplitl [Hz]; · iexact Hz
  iapply (slotAt_free c (recvM j.1) j.2 (sent (peer j.1 c) j)); iexact Hs

/-- Wait until the source of transfer `j` has been read. -/
theorem run_back (c : Dev nD) (j : J) (q : DmaSem sig) (hq : SemLoc.dma q = csem (some (false, j)))
    {sp sp' : Space} {e : EltTy} {src : Memref sig .tc sp S256x256 e} {dst : Memref sig .tc sp' S256x256 e} {hsrc : src.view.WordExact} {hdst : dst.view.WordExact} (hN : dst.view.dmaCredit = N)
    {α : Type} {Q : α → sProp 𝕄} {k : PUnit → Prog (TpuEff nD τ sig (Elt F) Λ₀ .tc) α} :
    iprop(records sent K ∗ levAts L lv ∗ owing (F := F) c ∅ ∗ issued (F := F) c j)
      ⊢ iprop((owing (F := F) c ∅ ∗ returned (F := F) c j
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold issued returned owing
  iintro ⟨#HR, #Hlev, ⟨%W, HO⟩, Hc, Hat⟩ Hk
  iapply (step_wait sent K W c (false, j) q hq ∅ (fun i hi => absurd hi (Finset.notMem_empty i)) hN) $$ [HO Hc Hat]
  · isplitr; · iexact HR
    isplitr; · iexact Hlev
    isplitl [HO]; · iexact HO
    isplitl [Hc]; · iexact Hc
    iexact Hat
  iintro ⟨HO, Hz, Hs⟩
  dsimp only [cellPay]
  iapply Hk
  isplitl [HO]; · iexact HO
  isplitl [Hz]; · iexact Hz
  iexact Hs

/-- One transfer out of many, and into many. -/
theorem take_out {S : Finset J} {j : J} (h : j ∈ S) (Φ : J → sProp 𝕄) : bigSep S Φ = iprop(Φ j ∗ bigSep (S.erase j) Φ) := BI.bigSep_erase h
theorem put_in {S : Finset J} {j : J} (h : j ∉ S) {Φ : J → sProp 𝕄} : bigSep (insert j S) Φ = iprop(Φ j ∗ bigSep S Φ) := BI.bigSep_insert h

/-- The device's transfers: those of `S` not yet issued, of `E` issued, of `B` with their source back; the partners'
    of `R` not yet landed, of `D` landed and read. -/
def transfers (c : Dev nD) (S R E D B : Finset J) : sProp 𝕄 :=
  iprop(owing (F := F) c S ∗ (bigSep S fun j => ready (F := F) c j) ∗ (bigSep S fun j => target (F := F) c j)
    ∗ (bigSep R fun j => expecting (F := F) c j) ∗ (bigSep E fun j => issued (F := F) c j)
    ∗ (bigSep D fun j => landed (F := F) c j) ∗ (bigSep B fun j => returned (F := F) c j))

/-- Issue transfer `j`. -/
theorem go_send (c n : Dev nD) (j : J) (hn : n = peer j.1 c) (S R E D B S' E' : Finset J) (hj : j ∈ S) (hj' : j ∉ E) (hS' : S' = S.erase j) (hE' : E' = insert j E)
    (M M' : SlotMem) (hM : M = sendM j.1) (hM' : M' = recvM j.1) (off : Fin 3 → ℕ) (ho : off = ![j.2.val, 0, 0])
    (inb : ∀ a, off a + S1x256x256.size a ≤ S4x256x256.size a) (hq hq' : S1x256x256.Squeezes S256x256)
    (h h' : ∀ a, (Rect.unit (s := S4x256x256) off S1x256x256.size inb).stride a = 1)
    (w : Vec F S1x256x256 .bf16) (hw : w = sent c j)
    (q q' : DmaSem sig) (hqs : SemLoc.dma q = csem (some (false, j))) (hqr : SemLoc.dma q' = csem (some (true, j)))
    {hl : M.view.LoadsAt (Rect.unit (s := S4x256x256) off S1x256x256.size inb).toLoadRect}
    {hx : (M.access (Rect.unit (s := S4x256x256) off S1x256x256.size inb)).Stores Finset.univ} {hm}
    {hsc : ((M'.slice (Rect.unit (s := S4x256x256) off S1x256x256.size inb) h').squeeze S256x256 hq' : Memref sig (Dev.tc n : Thread nD τ).2.kind .vmem S256x256 .bf16).view.ref.isScScratch = false}
    {hsrc : ((M.slice (Rect.unit (s := S4x256x256) off S1x256x256.size inb) h).squeeze S256x256 hq).view.WordExact}
    {hdst : ((M'.slice (Rect.unit (s := S4x256x256) off S1x256x256.size inb) h').squeeze S256x256 hq').view.WordExact}
    {hsem : DmaTarget.Typed .vmem (.dma q') (.remote (Dev.tc n : Thread nD τ) ((M'.slice (Rect.unit (s := S4x256x256) off S1x256x256.size inb) h').squeeze S256x256 hq' : Memref sig .tc .vmem S256x256 .bf16) (.dma q) hsc)}
    {α : Type} {Q : α → sProp 𝕄} {k : PUnit → Prog (TpuEff nD τ sig (Elt F) Λ₀ .tc) α} :
    iprop(records sent K ∗ transfers (F := F) c S R E D B)
      ⊢ iprop((transfers (F := F) c S' R E' D B -∗ wp frame (wpE (defs₀ (F := F)) 𝒱₀ (c : Thread nD τ) none) Set.univ (k ⟨⟩) Q)
          -∗ wp frame (wpE (defs₀ (F := F)) 𝒱₀ (c : Thread nD τ) none) Set.univ
              (.op (.load M (Rect.unit (s := S4x256x256) off S1x256x256.size inb).toLoadRect hl) fun _ =>
                .op (.store M (Rect.unit (s := S4x256x256) off S1x256x256.size inb) w Finset.univ hx hm) fun _ =>
                .op (.enqueueDma ((M.slice (Rect.unit (s := S4x256x256) off S1x256x256.size inb) h).squeeze S256x256 hq)
                (.remote (Dev.tc n : Thread nD τ) ((M'.slice (Rect.unit (s := S4x256x256) off S1x256x256.size inb) h').squeeze S256x256 hq') (.dma q) hsc) (.dma q') hsrc hdst hsem) k) Q) := by
  subst hS' hE'
  unfold transfers
  rw [take_out hj (fun j => ready (F := F) c j), take_out hj (fun j => target (F := F) c j), put_in hj']
  iintro ⟨#HR, HO, ⟨Ha, HA⟩, ⟨Ht, HT⟩, HE, HI, HD, HB⟩ Hk
  iapply (run_send sent K c n j hn S hj M M' hM hM' off ho inb hq hq' h h' w hw q q' hqs hqr) $$ [HO Ha Ht]
  · isplitr; · iexact HR
    isplitl [HO]; · iexact HO
    isplitl [Ha]; · iexact Ha
    iexact Ht
  iintro ⟨HO, Hi⟩
  iapply Hk
  isplitl [HO]; · iexact HO
  isplitl [HA]; · iexact HA
  isplitl [HT]; · iexact HT
  isplitl [HE]; · iexact HE
  isplitl [Hi HI]; · isplitl [Hi]; · iexact Hi
                     iexact HI
  isplitl [HD]; · iexact HD
  iexact HB

/-- Wait for the partner's transfer `j` and read it. -/
theorem go_recv (c : Dev nD) (j : J) (S R E D B R' D' : Finset J) (hS : ∀ i ∈ S, j.1.val < i.1.val) (hj : j ∈ R) (hj' : j ∉ D) (hR' : R' = R.erase j) (hD' : D' = insert j D)
    (M : SlotMem) (hM : M = recvM j.1) (off : Fin 3 → ℕ) (ho : off = ![j.2.val, 0, 0])
    (inb : ∀ a, off a + S1x256x256.size a ≤ S4x256x256.size a)
    (q : DmaSem sig) (hq : SemLoc.dma q = csem (some (true, j)))
    {sp sp' : Space} {e : EltTy} {src : Memref sig .tc sp S256x256 e} {dst : Memref sig .tc sp' S256x256 e} {hsrc : src.view.WordExact} {hdst : dst.view.WordExact} (hN : dst.view.dmaCredit = N)
    {hl : M.view.LoadsAt (Rect.unit (s := S4x256x256) off S1x256x256.size inb).toLoadRect}
    {α : Type} {Q : α → sProp 𝕄} {k : Vec F S1x256x256 .bf16 → Prog (TpuEff nD τ sig (Elt F) Λ₀ .tc) α} :
    iprop(records sent K ∗ levAts L lv ∗ transfers (F := F) c S R E D B)
      ⊢ iprop((transfers (F := F) c S R' E D' B -∗ wp frame (wpE (defs₀ (F := F)) 𝒱₀ (c : Thread nD τ) none) Set.univ (k (sent (peer j.1 c) j)) Q)
          -∗ wp frame (wpE (defs₀ (F := F)) 𝒱₀ (c : Thread nD τ) none) Set.univ
            (.op (.waitDma2 q src dst hsrc hdst) fun _ => .op (.load M (Rect.unit (s := S4x256x256) off S1x256x256.size inb).toLoadRect hl) k) Q) := by
  subst hR' hD'
  unfold transfers
  rw [take_out hj (fun j => expecting (F := F) c j), put_in hj']
  iintro ⟨#HR, #Hlev, HO, HA, HT, ⟨He, HE⟩, HI, HD, HB⟩ Hk
  iapply (run_recv sent K c j S hS M hM off ho inb q hq hN) $$ [HO He]
  · isplitr; · iexact HR
    isplitr; · iexact Hlev
    isplitl [HO]; · iexact HO
    iexact He
  iintro ⟨HO, Hl⟩
  iapply Hk
  isplitl [HO]; · iexact HO
  isplitl [HA]; · iexact HA
  isplitl [HT]; · iexact HT
  isplitl [HE]; · iexact HE
  isplitl [HI]; · iexact HI
  isplitl [Hl HD]; · isplitl [Hl]; · iexact Hl
                     iexact HD
  iexact HB

/-- Wait until the source of transfer `j` has been read. -/
theorem go_back (c : Dev nD) (j : J) (R E D B E' B' : Finset J) (hj : j ∈ E) (hj' : j ∉ B) (hE' : E' = E.erase j) (hB' : B' = insert j B)
    (q : DmaSem sig) (hq : SemLoc.dma q = csem (some (false, j)))
    {sp sp' : Space} {e : EltTy} {src : Memref sig .tc sp S256x256 e} {dst : Memref sig .tc sp' S256x256 e} {hsrc : src.view.WordExact} {hdst : dst.view.WordExact} (hN : dst.view.dmaCredit = N)
    {α : Type} {Q : α → sProp 𝕄} {k : PUnit → Prog (TpuEff nD τ sig (Elt F) Λ₀ .tc) α} :
    iprop(records sent K ∗ levAts L lv ∗ transfers (F := F) c ∅ R E D B)
      ⊢ iprop((transfers (F := F) c ∅ R E' D B' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hE' hB'
  unfold transfers
  rw [take_out hj (fun j => issued (F := F) c j), put_in hj']
  iintro ⟨#HR, #Hlev, HO, HA, HT, HE, ⟨Hi, HI⟩, HD, HB⟩ Hk
  iapply (run_back sent K c j q hq hN) $$ [HO Hi]
  · isplitr; · iexact HR
    isplitr; · iexact Hlev
    isplitl [HO]; · iexact HO
    iexact Hi
  iintro ⟨HO, Hl⟩
  iapply Hk
  isplitl [HO]; · iexact HO
  isplitl [HA]; · iexact HA
  isplitl [HT]; · iexact HT
  isplitl [HE]; · iexact HE
  isplitl [HI]; · iexact HI
  isplitl [HD]; · iexact HD
  isplitl [Hl]; · iexact Hl
  iexact HB

end Cert.AttnProof
-- ==== Proof.Fill.lean ====
/-
# Filling an array by columns

The attention array and the result are filled one column band after another. `filled c M V n` says that the columns
of `M` below `n` hold those of `V`; storing the next band of `V` moves `n` along, and once `n` is the whole width the
array reads as `V`.
-/
module

public import proofs.«01_k».proof.Proof.Transfers
public import proofs.«01_k».proof.Proof.Contents
public import Idealize.ShloMosaic.Lib.Pipeline.ValueKit.Geometry

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

section General
variable {s : Shape} {e : EltTy}

/-- Device `c`'s array `M` holds `V` on the multi-indices `B`. -/
def filled (c : Dev nD) (M : Memref sig .tc .vmem s e) (V : Vec F s e) (B : s.Idx → Prop) : sProp 𝕄 :=
  iprop(∃ f, ⌜∀ i, B i → M.view.read (Elt F) f i = V i⌝ ∗ (M.view.loc (c : Thread nD τ) ↦{fullShare} f))

/-- Filling starts from any contents. -/
theorem filled_start (c : Dev nD) (M : Memref sig .tc .vmem s e) (V : Vec F s e) (B : s.Idx → Prop) (hB : ∀ i, ¬ B i)
    (f : Buf (Elt F) (M.view.loc (c : Thread nD τ))) : (M.view.loc (c : Thread nD τ) ↦{fullShare} f) ⊢ filled c M V B := by
  unfold filled
  iintro H
  iexists f
  isplitr; · ipureintro; exact fun i h => absurd h (hB i)
  iexact H

/-- Store a rectangle of `V` (after a load of what was there, not used). -/
theorem run_fill (c : Dev nD) (M : Memref sig .tc .vmem s e) (V : Vec F s e) (B B' : s.Idx → Prop) (r : Rect s) (w : r.shape.Idx → Elt F e)
    (hw : ∀ x, w x = V (r.emb x)) (hB : ∀ i, B' i → B i ∨ i ∈ r.set)
    {hl : M.view.LoadsAt r.toLoadRect} {hx : (M.access r).Stores Finset.univ} {hm}
    {α : Type} {Q : α → sProp 𝕄} {k : PUnit → Prog (TpuEff nD τ sig (Elt F) Λ₀ .tc) α} :
    filled c M V B ⊢ iprop((filled c M V B' -∗ wp frame (wpE (defs₀ (F := F)) 𝒱₀ (c : Thread nD τ) none) Set.univ (k ⟨⟩) Q)
      -∗ wp frame (wpE (defs₀ (F := F)) 𝒱₀ (c : Thread nD τ) none) Set.univ
          (.op (.load M r.toLoadRect hl) fun _ => .op (.store M r w Finset.univ hx hm) k) Q) := by
  unfold filled
  iintro ⟨%f, %hf, H⟩ Hk
  iapply (wp_load_rect 𝒱₀ (c : Thread nD τ) none Set.univ (m := M) (r := r) (Finset.subset_univ _)) $$ H
  iintro H
  iapply (wp_store 𝒱₀ (c : Thread nD τ) none Set.univ (m := M) (r := r) (Mk := Finset.univ) (Finset.subset_univ _)) $$ H
  iintro H
  iapply Hk
  iexists (M.access r).write (Elt F) f w Finset.univ
  isplitr
  · ipureintro
    intro i hi
    by_cases hr : i ∈ r.set
    · rw [← Rect.map_emb_univ] at hr
      obtain ⟨x, -, rfl⟩ := Finset.mem_map.1 hr
      rw [← hw x]
      exact View.read_slice_write_emb r f w (Finset.mem_univ x)
    · rw [← hf i ((hB i hi).resolve_right hr)]
      exact View.read_slice_write_of_not_mem r f w Finset.univ (by rw [Rect.map_emb_univ]; exact hr)
  iexact H

/-- A load of an array held whole. -/
theorem run_load (c : Dev nD) (M : Memref sig .tc .vmem s e) (V : Vec F s e) (B : s.Idx → Prop) (hB : ∀ i, B i) (off : Fin s.rank → ℕ) (ho : off = fun _ => 0)
    (inb : ∀ a, off a + s.size a ≤ s.size a) {hl : M.view.LoadsAt (Rect.unit (s := s) off s.size inb).toLoadRect}
    {α : Type} {Q : α → sProp 𝕄} {k : Vec F s e → Prog (TpuEff nD τ sig (Elt F) Λ₀ .tc) α} :
    filled c M V B ⊢ iprop((filled c M V B -∗ wp frame (wpE (defs₀ (F := F)) 𝒱₀ (c : Thread nD τ) none) Set.univ (k V) Q)
      -∗ wp frame (wpE (defs₀ (F := F)) 𝒱₀ (c : Thread nD τ) none) Set.univ (.op (.load M (Rect.unit (s := s) off s.size inb).toLoadRect hl) k) Q) := by
  subst ho
  unfold filled
  iintro ⟨%f, %hf, H⟩ Hk
  have hr : (M.access (Rect.unit (s := s) (fun _ => 0) s.size inb)).read (Elt F) f = V := by
    funext x
    rw [← hf x (hB x)]
    show M.view.read (Elt F) f ((Rect.unit (s := s) (fun _ => 0) s.size inb).emb x) = _
    congr 1
    funext a
    apply Fin.ext
    rw [Rect.emb_apply]
    show 0 + 1 * (x a).val = (x a).val
    omega
  iapply (wp_load_rect 𝒱₀ (c : Thread nD τ) none Set.univ (m := M) (r := Rect.unit (s := s) (fun _ => 0) s.size inb) (Finset.subset_univ _)) $$ H
  rw [hr]
  iintro H
  iapply Hk
  iexists f
  isplitr; · ipureintro; exact hf
  iexact H

end General

section Heads
variable (c : Dev nD) (M : Memref sig .tc .vmem S256x1024 .bf16) (q k v : FVec F S256x1024 .bf16)

/-- The attention array with its first `n` heads stored. -/
def heads (n : ℕ) : sProp 𝕄 := filled c M (oV q k v) fun i => (i 1).val < 128 * n

/-- Store the attention of the next head. -/
theorem run_head (h : Fin 8) (n n' : ℕ) (hn : n = h.val) (hn' : n' = h.val + 1) (off : Fin 2 → ℕ) (ho : off = ![0, 128 * h.val]) (inb : ∀ a, off a + S256x128.size a ≤ S256x1024.size a)
    (w : Vec F S256x128 .bf16) (hw : w = head q k v h)
    {hl : M.view.LoadsAt (Rect.unit (s := S256x1024) off S256x128.size inb).toLoadRect} {hx : (M.access (Rect.unit (s := S256x1024) off S256x128.size inb)).Stores Finset.univ} {hm}
    {α : Type} {Q : α → sProp 𝕄} {kt : PUnit → Prog (TpuEff nD τ sig (Elt F) Λ₀ .tc) α} :
    heads c M q k v n ⊢ iprop((heads c M q k v n' -∗ wp frame (wpE (defs₀ (F := F)) 𝒱₀ (c : Thread nD τ) none) Set.univ (kt ⟨⟩) Q)
      -∗ wp frame (wpE (defs₀ (F := F)) 𝒱₀ (c : Thread nD τ) none) Set.univ
          (.op (.load M (Rect.unit (s := S256x1024) off S256x128.size inb).toLoadRect hl) fun _ => .op (.store M (Rect.unit (s := S256x1024) off S256x128.size inb) w Finset.univ hx hm) kt) Q) := by
  subst hn hn' ho hw
  unfold heads
  refine run_fill c M (oV q k v) _ _ (Rect.unit (s := S256x1024) ![0, 128 * h.val] S256x128.size inb) _ (fun x => ?_) (fun i hi => ?_)
  · have h0 : ((Rect.unit (s := S256x1024) ![0, 128 * h.val] S256x128.size inb).emb x 0).val = (x 0).val := (ValueKit.rect_emb_unit_val (s := S256x1024) ![0, 128 * h.val] S256x128.size inb x 0).trans (Nat.zero_add _)
    have h1 : ((Rect.unit (s := S256x1024) ![0, 128 * h.val] S256x128.size inb).emb x 1).val = 128 * h.val + (x 1).val := ValueKit.rect_emb_unit_val (s := S256x1024) ![0, 128 * h.val] S256x128.size inb x 1
    have hx1 : (x 1).val < 128 := (x 1).isLt
    unfold oV
    have e1 : (⟨((Rect.unit (s := S256x1024) ![0, 128 * h.val] S256x128.size inb).emb x 1).val / 128, by have : ((Rect.unit (s := S256x1024) ![0, 128 * h.val] S256x128.size inb).emb x 1).val < 1024 := Fin.isLt _; omega⟩ : Fin 8) = h :=
      Fin.ext (by show _ / 128 = _; rw [h1]; omega)
    rw [e1]
    congr 1
    funext a
    match a with
    | ⟨0, _⟩ => exact Fin.ext h0.symm
    | ⟨1, _⟩ => exact Fin.ext (by show (x 1).val = _ % 128; rw [h1]; omega)
  · by_cases hlt : (i 1).val < 128 * h.val
    · exact Or.inl hlt
    · right
      rw [Rect.mem_set_unit]
      have h0 : (i 0).val < 256 := (i 0).isLt
      intro a
      match a with
      | ⟨0, _⟩ => exact ⟨Nat.zero_le _, by show (i 0).val < 0 + 256; omega⟩
      | ⟨1, _⟩ => exact ⟨by show 128 * h.val ≤ (i 1).val; omega, by show (i 1).val < 128 * h.val + 128; omega⟩

theorem heads_start (f : Buf (Elt F) (M.view.loc (c : Thread nD τ))) : (M.view.loc (c : Thread nD τ) ↦{fullShare} f) ⊢ heads c M q k v 0 :=
  filled_start c M _ _ (fun i h => absurd (show (i 1).val < 128 * 0 from h) (Nat.not_lt_zero _)) f

/-- Load the attention of all heads. -/
theorem run_heads (off : Fin 2 → ℕ) (ho : off = fun _ => 0) (inb : ∀ a, off a + S256x1024.size a ≤ S256x1024.size a)
    {hl : M.view.LoadsAt (Rect.unit (s := S256x1024) off S256x1024.size inb).toLoadRect}
    {α : Type} {Q : α → sProp 𝕄} {kt : Vec F S256x1024 .bf16 → Prog (TpuEff nD τ sig (Elt F) Λ₀ .tc) α} :
    heads c M q k v 8 ⊢ iprop((heads c M q k v 8 -∗ wp frame (wpE (defs₀ (F := F)) 𝒱₀ (c : Thread nD τ) none) Set.univ (kt (oV q k v)) Q)
      -∗ wp frame (wpE (defs₀ (F := F)) 𝒱₀ (c : Thread nD τ) none) Set.univ (.op (.load M (Rect.unit (s := S256x1024) off S256x1024.size inb).toLoadRect hl) kt) Q) :=
  run_load c M (oV q k v) _ (fun i => by have : (i 1).val < 1024 := (i 1).isLt; show _ < 128 * 8; omega) off ho inb
end Heads

section Chunks
variable (c : Dev nD) (M : Memref sig .tc .vmem S1x256x1024 .f32) (X : Dev nD → Vec F S1x256x1024 .bf16) (Wq Wo Wk Wv : Dev nD → Vec F S1024x1024 .bf16)

/-- The result array with its first `n` chunks stored. -/
def chunks (n : ℕ) : sProp 𝕄 := filled c M (resD X Wq Wo Wk Wv c) fun i => (i 2).val < 256 * n

/-- Store the next chunk of the result. -/
theorem run_chunk (h : Fin 4) (n n' : ℕ) (hn : n = h.val) (hn' : n' = h.val + 1) (off : Fin 3 → ℕ) (ho : off = ![0, 0, 256 * h.val]) (inb : ∀ a, off a + S1x256x256.size a ≤ S1x256x1024.size a)
    (w : Vec F S1x256x256 .f32) (hw : w = outD X Wq Wo Wk Wv c h)
    {hl : M.view.LoadsAt (Rect.unit (s := S1x256x1024) off S1x256x256.size inb).toLoadRect} {hx : (M.access (Rect.unit (s := S1x256x1024) off S1x256x256.size inb)).Stores Finset.univ} {hm}
    {α : Type} {Q : α → sProp 𝕄} {kt : PUnit → Prog (TpuEff nD τ sig (Elt F) Λ₀ .tc) α} :
    chunks c M X Wq Wo Wk Wv n ⊢ iprop((chunks c M X Wq Wo Wk Wv n' -∗ wp frame (wpE (defs₀ (F := F)) 𝒱₀ (c : Thread nD τ) none) Set.univ (kt ⟨⟩) Q)
      -∗ wp frame (wpE (defs₀ (F := F)) 𝒱₀ (c : Thread nD τ) none) Set.univ
          (.op (.load M (Rect.unit (s := S1x256x1024) off S1x256x256.size inb).toLoadRect hl) fun _ => .op (.store M (Rect.unit (s := S1x256x1024) off S1x256x256.size inb) w Finset.univ hx hm) kt) Q) := by
  subst hn hn' ho hw
  unfold chunks
  refine run_fill c M (resD X Wq Wo Wk Wv c) _ _ (Rect.unit (s := S1x256x1024) ![0, 0, 256 * h.val] S1x256x256.size inb) _ (fun x => ?_) (fun i hi => ?_)
  · have h1 : ((Rect.unit (s := S1x256x1024) ![0, 0, 256 * h.val] S1x256x256.size inb).emb x 1).val = (x 1).val := (ValueKit.rect_emb_unit_val (s := S1x256x1024) ![0, 0, 256 * h.val] S1x256x256.size inb x 1).trans (Nat.zero_add _)
    have h2 : ((Rect.unit (s := S1x256x1024) ![0, 0, 256 * h.val] S1x256x256.size inb).emb x 2).val = 256 * h.val + (x 2).val := ValueKit.rect_emb_unit_val (s := S1x256x1024) ![0, 0, 256 * h.val] S1x256x256.size inb x 2
    have h0 : ((Rect.unit (s := S1x256x1024) ![0, 0, 256 * h.val] S1x256x256.size inb).emb x 0).val = (x 0).val := (ValueKit.rect_emb_unit_val (s := S1x256x1024) ![0, 0, 256 * h.val] S1x256x256.size inb x 0).trans (Nat.zero_add _)
    have hx2 : (x 2).val < 256 := (x 2).isLt
    unfold resD
    have e1 : (⟨((Rect.unit (s := S1x256x1024) ![0, 0, 256 * h.val] S1x256x256.size inb).emb x 2).val / 256, by have : ((Rect.unit (s := S1x256x1024) ![0, 0, 256 * h.val] S1x256x256.size inb).emb x 2).val < 1024 := Fin.isLt _; omega⟩ : Fin 4) = h :=
      Fin.ext (by show _ / 256 = _; rw [h2]; omega)
    rw [e1]
    congr 1
    funext a
    match a with
    | ⟨0, _⟩ => exact Subsingleton.elim (α := Fin 1) _ _
    | ⟨1, _⟩ => exact Fin.ext h1.symm
    | ⟨2, _⟩ => exact Fin.ext (by show (x 2).val = _ % 256; rw [h2]; omega)
  · by_cases hlt : (i 2).val < 256 * h.val
    · exact Or.inl hlt
    · right
      rw [Rect.mem_set_unit]
      have h1 : (i 1).val < 256 := (i 1).isLt
      have h0 : (i 0).val < 1 := (i 0).isLt
      intro a
      match a with
      | ⟨0, _⟩ => exact ⟨Nat.zero_le _, by show (i 0).val < 0 + 1; omega⟩
      | ⟨1, _⟩ => exact ⟨Nat.zero_le _, by show (i 1).val < 0 + 256; omega⟩
      | ⟨2, _⟩ => exact ⟨by show 256 * h.val ≤ (i 2).val; omega, by show (i 2).val < 256 * h.val + 256; omega⟩

theorem chunks_start (f : Buf (Elt F) (M.view.loc (c : Thread nD τ))) : (M.view.loc (c : Thread nD τ) ↦{fullShare} f) ⊢ chunks c M X Wq Wo Wk Wv 0 :=
  filled_start c M _ _ (fun i h => absurd (show (i 2).val < 256 * 0 from h) (Nat.not_lt_zero _)) f
end Chunks

end Cert.AttnProof
-- ==== Proof.Body.lean ====
/-
# The kernel's body

The body, run from start to end on one device: the two signals and the barrier, the projections and the heads'
attention, the eight transfers out and the eight in with the sums between them, the waits for the sources. It is
stated for any contents of the devices' blocks.
-/
module

public import proofs.«01_k».proof.Proof.Fill
public import proofs.«01_k».proof.Proof.Gen.KernelIdeal.Points

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The transfers in the order of their issue: those from the `n`th on, and those before it. -/
def since (n : ℕ) : Finset J := Finset.univ.filter fun j => n ≤ 4 * j.1.val + j.2.val
def before (n : ℕ) : Finset J := Finset.univ.filter fun j => 4 * j.1.val + j.2.val < n
/-- The same in the order in which their sources are waited for. -/
def since' (n : ℕ) : Finset J := Finset.univ.filter fun j => n ≤ 2 * j.2.val + j.1.val
def before' (n : ℕ) : Finset J := Finset.univ.filter fun j => 2 * j.2.val + j.1.val < n

/-- Every slot transfer credits the same. -/
theorem credit_any {sp : Space} (M : Memref sig .tc sp S256x256 .bf16) : M.view.dmaCredit = N := by
  unfold N; rfl

section Run

variable (X : Dev nD → Vec F S1x256x1024 .bf16) (Wq Wo Wk Wv : Dev nD → Vec F S1024x1024 .bf16) (K : Dev nD × Cell → ℕ)

/-- What device `c` holds of the protocol when its body starts, beside the invariants and what it owes. -/
def holds (c : Dev nD) : sProp 𝕄 :=
  iprop(cred (tallyAt (barC c) () 2) ∗ atPos ER (barC c) 0 ∅ 0
    ∗ dutyTok ER (barC (peer (fst c) c)) 0 (fst c) ∗ dutyTok ER (barC (peer (snd c) c)) 0 (snd c)
    ∗ (bigSep Finset.univ fun k : Fin 4 => slotFree (F := F) c (recvM (fst c)) k) ∗ (bigSep Finset.univ fun k : Fin 4 => slotFree (F := F) c (recvM (snd c)) k)
    ∗ (bigSep Finset.univ fun j => ready (F := F) c j) ∗ (bigSep Finset.univ fun j => expecting (F := F) c j))

/-- Device `c`'s five operand blocks in their staging buffers. -/
def operands (c : Dev nD) : sProp 𝕄 :=
  iprop(filled c (Memref.whole cc0_stg0_0) (X c) (fun _ => True) ∗ filled c (Memref.whole cc0_stg1_0) (Wq c) (fun _ => True) ∗ filled c (Memref.whole cc0_stg2_0) (Wo c) (fun _ => True)
    ∗ filled c (Memref.whole cc0_stg3_0) (Wk c) (fun _ => True) ∗ filled c (Memref.whole cc0_stg4_0) (Wv c) (fun _ => True))

set_option maxHeartbeats 4000000 in
/-- The body from its start to its end. -/
theorem run_body (c : Dev nD) (W : Waits sig Unit) (Kt : PUnit → sProp 𝕄) :
    iprop(records (sentD X Wq Wo Wk Wv) K ∗ levAts L lv ∗ owes (c : Thread nD τ) (O₀ c) W ∗ holds (F := F) c ∗ operands X Wq Wo Wk Wv c
        ∗ (∃ f, ((c : Thread nD τ).loc cc0_scratch0) ↦{fullShare} f) ∗ (∃ f, ((c : Thread nD τ).loc cc0_stg5_0) ↦{fullShare} f))
      ⊢ iprop(((transfers (F := F) c ∅ ∅ ∅ Finset.univ Finset.univ ∗ semVal (barC c) 0 ∗ operands X Wq Wo Wk Wv c
            ∗ heads c (Memref.whole cc0_scratch0) (proj (X c) (Wq c)) (proj (X c) (Wk c)) (proj (X c) (Wv c)) 8
            ∗ chunks c (Memref.whole cc0_stg5_0) X Wq Wo Wk Wv 4) -∗ Kt ⟨⟩)
          -∗ wp frame (wpE (defs₀ (F := F)) 𝒱₀ (c : Thread nD τ) none) Set.univ (bodyAt0 (F := F) t0_0) Kt) := by
  unfold bodyAt0
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel
  simp only [semSignalWord, semWaitWord, Prog.lift, Prog.bind_op, Prog.bind_ret, Prog.pure_eq_ret, Prog.bind_assoc, wp_deviceId]
  unfold holds operands
  iintro ⟨#HR, #Hlev, HO, ⟨HcB, HatB, Ht1, Ht2, Hb1, Hb2, Hready, Hexp⟩, ⟨HX, HWq, HWo, HWk, HWv⟩, ⟨%fo, Ho⟩, ⟨%fr, Hr⟩⟩ Hk
  iapply (step_signal (sentD X Wq Wo Wk Wv) K W c _ (fst c) (dev1_eq c) _ rfl _ rfl (O₀ c) (O₁ c) rfl) $$ [HO Ht1 Hb1]
  · isplitr; · iexact HR
    isplitl [HO]; · iexact HO
    isplitl [Ht1]; · iexact Ht1
    iexact Hb1
  iintro HO
  iapply (step_signal (sentD X Wq Wo Wk Wv) K W c _ (snd c) (dev2_eq c) _ rfl _ rfl (O₁ c) (Osend c Finset.univ) rfl) $$ [HO Ht2 Hb2]
  · isplitr; · iexact HR
    isplitl [HO]; · iexact HO
    isplitl [Ht2]; · iexact Ht2
    iexact Hb2
  iintro HO
  iapply (step_barrier (sentD X Wq Wo Wk Wv) K W c _ rfl _ rfl) $$ [HO HcB HatB]
  · isplitr; · iexact HR
    isplitr; · iexact Hlev
    isplitl [HO]; · iexact HO
    isplitl [HcB]; · iexact HcB
    iexact HatB
  iintro ⟨HO, Hbar, Htgt⟩
  have hz3 : (![0, 0, 0] : Fin 3 → ℕ) = fun _ => 0 := funext fun a => by fin_cases a <;> rfl
  have hz2 : (![0, 0] : Fin 2 → ℕ) = fun _ => 0 := funext fun a => by fin_cases a <;> rfl
  iapply (run_load c (Memref.whole cc0_stg0_0) (X c) (fun _ => True) (fun _ => trivial) ![0, 0, 0] hz3 _) $$ HX
  iintro HX
  iapply (run_load c (Memref.whole cc0_stg1_0) (Wq c) (fun _ => True) (fun _ => trivial) ![0, 0] hz2 _) $$ HWq
  iintro HWq
  iapply (run_load c (Memref.whole cc0_stg3_0) (Wk c) (fun _ => True) (fun _ => trivial) ![0, 0] hz2 _) $$ HWk
  iintro HWk
  iapply (run_load c (Memref.whole cc0_stg4_0) (Wv c) (fun _ => True) (fun _ => trivial) ![0, 0] hz2 _) $$ HWv
  iintro HWv
  ihave Ho := (heads_start c (Memref.whole cc0_scratch0) (proj (X c) (Wq c)) (proj (X c) (Wk c)) (proj (X c) (Wv c)) fo) $$ Ho
  iapply (run_head c (Memref.whole cc0_scratch0) (proj (X c) (Wq c)) (proj (X c) (Wk c)) (proj (X c) (Wv c)) 0 0 1 rfl rfl ![0, 0] rfl _ _ (pay6_eq _ _ _ _ _)) $$ Ho
  iintro Ho
  iapply (run_head c (Memref.whole cc0_scratch0) (proj (X c) (Wq c)) (proj (X c) (Wk c)) (proj (X c) (Wv c)) 1 1 2 rfl rfl ![0, 128] rfl _ _ (pay7_eq _ _ _ _ _)) $$ Ho
  iintro Ho
  iapply (run_head c (Memref.whole cc0_scratch0) (proj (X c) (Wq c)) (proj (X c) (Wk c)) (proj (X c) (Wv c)) 2 2 3 rfl rfl ![0, 256] rfl _ _ (pay10_eq _ _ _)) $$ Ho
  iintro Ho
  iapply (run_head c (Memref.whole cc0_scratch0) (proj (X c) (Wq c)) (proj (X c) (Wk c)) (proj (X c) (Wv c)) 3 3 4 rfl rfl ![0, 384] rfl _ _ (pay11_eq _ _ _)) $$ Ho
  iintro Ho
  iapply (run_head c (Memref.whole cc0_scratch0) (proj (X c) (Wq c)) (proj (X c) (Wk c)) (proj (X c) (Wv c)) 4 4 5 rfl rfl ![0, 512] rfl _ _ (pay13_eq _ _ _)) $$ Ho
  iintro Ho
  iapply (run_head c (Memref.whole cc0_scratch0) (proj (X c) (Wq c)) (proj (X c) (Wk c)) (proj (X c) (Wv c)) 5 5 6 rfl rfl ![0, 640] rfl _ _ (pay14_eq _ _ _)) $$ Ho
  iintro Ho
  iapply (run_head c (Memref.whole cc0_scratch0) (proj (X c) (Wq c)) (proj (X c) (Wk c)) (proj (X c) (Wv c)) 6 6 7 rfl rfl ![0, 768] rfl _ _ (pay15_eq _ _ _)) $$ Ho
  iintro Ho
  iapply (run_head c (Memref.whole cc0_scratch0) (proj (X c) (Wq c)) (proj (X c) (Wk c)) (proj (X c) (Wv c)) 7 7 8 rfl rfl ![0, 896] rfl _ _ (pay18_eq _ _ _)) $$ Ho
  iintro Ho
  iapply (run_load c (Memref.whole cc0_stg2_0) (Wo c) (fun _ => True) (fun _ => trivial) ![0, 0] hz2 _) $$ HWo
  iintro HWo
  iapply (run_heads c (Memref.whole cc0_scratch0) (proj (X c) (Wq c)) (proj (X c) (Wk c)) (proj (X c) (Wv c)) ![0, 0] hz2 _) $$ Ho
  iintro Ho
  ihave HT := (show iprop(owes (c : Thread nD τ) (Osend c Finset.univ) (insert (SemLoc.reg barS, ()) W) ∗ (bigSep Finset.univ fun j => ready (F := F) c j)
      ∗ (bigSep Finset.univ fun j => expecting (F := F) c j) ∗ (bigSep Finset.univ fun j : J => slotFree (F := F) (peer j.1 c) (recvM j.1) j.2))
      ⊢ transfers (F := F) c (since 0) (since 0) (before 0) (before 0) (before' 0) from by
    rw [show since 0 = Finset.univ from by decide, show before 0 = ∅ from by decide, show before' 0 = ∅ from by decide]
    unfold transfers owing
    rw [BI.bigSep_empty, BI.bigSep_empty, BI.bigSep_empty]
    iintro ⟨H1, H2, H3, H4⟩
    isplitl [H1]; · iexists _; iexact H1
    isplitl [H2]; · iexact H2
    isplitl [H4]; · iexact H4
    isplitl [H3]; · iexact H3
    isplitr; · iempintro
    isplitr; · iempintro
    iempintro) $$ [HO Hready Hexp Htgt]
  · isplitl [HO]; · iexact HO
    isplitl [Hready]; · iexact Hready
    isplitl [Hexp]; · iexact Hexp
    iexact Htgt
  iapply (go_send (sentD X Wq Wo Wk Wv) K c _ (0, 0) (dev3_eq c) (since 0) (since 0) (before 0) (before 0) (before' 0) (since 1) (before 1) (by decide) (by decide) (by decide) (by decide)
      (Memref.whole cc0_scratch1) (Memref.whole cc0_scratch3) rfl rfl ![0, 0, 0] rfl _ _ _ _ _ _ rfl _ _ rfl rfl) $$ [HT]
  · isplitr; · iexact HR
    iexact HT
  iintro HT
  iapply (go_send (sentD X Wq Wo Wk Wv) K c _ (0, 1) (dev4_eq c) (since 1) (since 0) (before 1) (before 0) (before' 0) (since 2) (before 2) (by decide) (by decide) (by decide) (by decide)
      (Memref.whole cc0_scratch1) (Memref.whole cc0_scratch3) rfl rfl ![1, 0, 0] rfl _ _ _ _ _ _ rfl _ _ rfl rfl) $$ [HT]
  · isplitr; · iexact HR
    iexact HT
  iintro HT
  iapply (go_send (sentD X Wq Wo Wk Wv) K c _ (0, 2) (dev5_eq c) (since 2) (since 0) (before 2) (before 0) (before' 0) (since 3) (before 3) (by decide) (by decide) (by decide) (by decide)
      (Memref.whole cc0_scratch1) (Memref.whole cc0_scratch3) rfl rfl ![2, 0, 0] rfl _ _ _ _ _ _ rfl _ _ rfl rfl) $$ [HT]
  · isplitr; · iexact HR
    iexact HT
  iintro HT
  iapply (go_send (sentD X Wq Wo Wk Wv) K c _ (0, 3) (dev6_eq c) (since 3) (since 0) (before 3) (before 0) (before' 0) (since 4) (before 4) (by decide) (by decide) (by decide) (by decide)
      (Memref.whole cc0_scratch1) (Memref.whole cc0_scratch3) rfl rfl ![3, 0, 0] rfl _ _ _ _ _ _ rfl _ _ rfl rfl) $$ [HT]
  · isplitr; · iexact HR
    iexact HT
  iintro HT
  iapply (go_recv (sentD X Wq Wo Wk Wv) K c (0, 0) (since 4) (since 0) (before 4) (before 0) (before' 0) (since 1) (before 1) (by decide) (by decide) (by decide) (by decide) (by decide)
      (Memref.whole cc0_scratch3) rfl ![0, 0, 0] rfl _ _ rfl (credit_any _)) $$ [HT]
  · isplitr; · iexact HR
    isplitr; · iexact Hlev
    iexact HT
  iintro HT
  iapply (go_send (sentD X Wq Wo Wk Wv) K c _ (1, 0) (dev7_eq c) (since 4) (since 1) (before 4) (before 1) (before' 0) (since 5) (before 5) (by decide) (by decide) (by decide) (by decide)
      (Memref.whole cc0_scratch2) (Memref.whole cc0_scratch4) rfl rfl ![0, 0, 0] rfl _ _ _ _ _ _ rfl _ _ rfl rfl) $$ [HT]
  · isplitr; · iexact HR
    iexact HT
  iintro HT
  iapply (go_recv (sentD X Wq Wo Wk Wv) K c (0, 1) (since 5) (since 1) (before 5) (before 1) (before' 0) (since 2) (before 2) (by decide) (by decide) (by decide) (by decide) (by decide)
      (Memref.whole cc0_scratch3) rfl ![1, 0, 0] rfl _ _ rfl (credit_any _)) $$ [HT]
  · isplitr; · iexact HR
    isplitr; · iexact Hlev
    iexact HT
  iintro HT
  iapply (go_send (sentD X Wq Wo Wk Wv) K c _ (1, 1) (dev8_eq c) (since 5) (since 2) (before 5) (before 2) (before' 0) (since 6) (before 6) (by decide) (by decide) (by decide) (by decide)
      (Memref.whole cc0_scratch2) (Memref.whole cc0_scratch4) rfl rfl ![1, 0, 0] rfl _ _ _ _ _ _ rfl _ _ rfl rfl) $$ [HT]
  · isplitr; · iexact HR
    iexact HT
  iintro HT
  iapply (go_recv (sentD X Wq Wo Wk Wv) K c (0, 2) (since 6) (since 2) (before 6) (before 2) (before' 0) (since 3) (before 3) (by decide) (by decide) (by decide) (by decide) (by decide)
      (Memref.whole cc0_scratch3) rfl ![2, 0, 0] rfl _ _ rfl (credit_any _)) $$ [HT]
  · isplitr; · iexact HR
    isplitr; · iexact Hlev
    iexact HT
  iintro HT
  iapply (go_send (sentD X Wq Wo Wk Wv) K c _ (1, 2) (dev9_eq c) (since 6) (since 3) (before 6) (before 3) (before' 0) (since 7) (before 7) (by decide) (by decide) (by decide) (by decide)
      (Memref.whole cc0_scratch2) (Memref.whole cc0_scratch4) rfl rfl ![2, 0, 0] rfl _ _ _ _ _ _ rfl _ _ rfl rfl) $$ [HT]
  · isplitr; · iexact HR
    iexact HT
  iintro HT
  iapply (go_recv (sentD X Wq Wo Wk Wv) K c (0, 3) (since 7) (since 3) (before 7) (before 3) (before' 0) (since 4) (before 4) (by decide) (by decide) (by decide) (by decide) (by decide)
      (Memref.whole cc0_scratch3) rfl ![3, 0, 0] rfl _ _ rfl (credit_any _)) $$ [HT]
  · isplitr; · iexact HR
    isplitr; · iexact Hlev
    iexact HT
  iintro HT
  iapply (go_send (sentD X Wq Wo Wk Wv) K c _ (1, 3) (dev10_eq c) (since 7) (since 4) (before 7) (before 4) (before' 0) (since 8) (before 8) (by decide) (by decide) (by decide) (by decide)
      (Memref.whole cc0_scratch2) (Memref.whole cc0_scratch4) rfl rfl ![3, 0, 0] rfl _ _ _ _ _ _ rfl _ _ rfl rfl) $$ [HT]
  · isplitr; · iexact HR
    iexact HT
  iintro HT
  ihave Hr := (chunks_start c (Memref.whole cc0_stg5_0) X Wq Wo Wk Wv fr) $$ Hr
  iapply (go_recv (sentD X Wq Wo Wk Wv) K c (1, 0) (since 8) (since 4) (before 8) (before 4) (before' 0) (since 5) (before 5) (by decide) (by decide) (by decide) (by decide) (by decide)
      (Memref.whole cc0_scratch4) rfl ![0, 0, 0] rfl _ _ rfl (credit_any _)) $$ [HT]
  · isplitr; · iexact HR
    isplitr; · iexact Hlev
    iexact HT
  iintro HT
  iapply (run_chunk c (Memref.whole cc0_stg5_0) X Wq Wo Wk Wv 0 0 1 rfl rfl ![0, 0, 0] rfl _ _ rfl) $$ Hr
  iintro Hr
  iapply (go_recv (sentD X Wq Wo Wk Wv) K c (1, 1) (since 8) (since 5) (before 8) (before 5) (before' 0) (since 6) (before 6) (by decide) (by decide) (by decide) (by decide) (by decide)
      (Memref.whole cc0_scratch4) rfl ![1, 0, 0] rfl _ _ rfl (credit_any _)) $$ [HT]
  · isplitr; · iexact HR
    isplitr; · iexact Hlev
    iexact HT
  iintro HT
  iapply (run_chunk c (Memref.whole cc0_stg5_0) X Wq Wo Wk Wv 1 1 2 rfl rfl ![0, 0, 256] rfl _ _ rfl) $$ Hr
  iintro Hr
  iapply (go_recv (sentD X Wq Wo Wk Wv) K c (1, 2) (since 8) (since 6) (before 8) (before 6) (before' 0) (since 7) (before 7) (by decide) (by decide) (by decide) (by decide) (by decide)
      (Memref.whole cc0_scratch4) rfl ![2, 0, 0] rfl _ _ rfl (credit_any _)) $$ [HT]
  · isplitr; · iexact HR
    isplitr; · iexact Hlev
    iexact HT
  iintro HT
  iapply (run_chunk c (Memref.whole cc0_stg5_0) X Wq Wo Wk Wv 2 2 3 rfl rfl ![0, 0, 512] rfl _ _ rfl) $$ Hr
  iintro Hr
  iapply (go_recv (sentD X Wq Wo Wk Wv) K c (1, 3) (since 8) (since 7) (before 8) (before 7) (before' 0) (since 8) (before 8) (by decide) (by decide) (by decide) (by decide) (by decide)
      (Memref.whole cc0_scratch4) rfl ![3, 0, 0] rfl _ _ rfl (credit_any _)) $$ [HT]
  · isplitr; · iexact HR
    isplitr; · iexact Hlev
    iexact HT
  iintro HT
  iapply (run_chunk c (Memref.whole cc0_stg5_0) X Wq Wo Wk Wv 3 3 4 rfl rfl ![0, 0, 768] rfl _ _ rfl) $$ Hr
  iintro Hr
  rw [show since 8 = ∅ from by decide, show before 8 = since' 0 from by decide]
  iapply (go_back (sentD X Wq Wo Wk Wv) K c (0, 0) ∅ (since' 0) (since' 0) (before' 0) (since' 1) (before' 1) (by decide) (by decide) (by decide) (by decide) _ rfl (credit_any _)) $$ [HT]
  · isplitr; · iexact HR
    isplitr; · iexact Hlev
    iexact HT
  iintro HT
  iapply (go_back (sentD X Wq Wo Wk Wv) K c (1, 0) ∅ (since' 1) (since' 0) (before' 1) (since' 2) (before' 2) (by decide) (by decide) (by decide) (by decide) _ rfl (credit_any _)) $$ [HT]
  · isplitr; · iexact HR
    isplitr; · iexact Hlev
    iexact HT
  iintro HT
  iapply (go_back (sentD X Wq Wo Wk Wv) K c (0, 1) ∅ (since' 2) (since' 0) (before' 2) (since' 3) (before' 3) (by decide) (by decide) (by decide) (by decide) _ rfl (credit_any _)) $$ [HT]
  · isplitr; · iexact HR
    isplitr; · iexact Hlev
    iexact HT
  iintro HT
  iapply (go_back (sentD X Wq Wo Wk Wv) K c (1, 1) ∅ (since' 3) (since' 0) (before' 3) (since' 4) (before' 4) (by decide) (by decide) (by decide) (by decide) _ rfl (credit_any _)) $$ [HT]
  · isplitr; · iexact HR
    isplitr; · iexact Hlev
    iexact HT
  iintro HT
  iapply (go_back (sentD X Wq Wo Wk Wv) K c (0, 2) ∅ (since' 4) (since' 0) (before' 4) (since' 5) (before' 5) (by decide) (by decide) (by decide) (by decide) _ rfl (credit_any _)) $$ [HT]
  · isplitr; · iexact HR
    isplitr; · iexact Hlev
    iexact HT
  iintro HT
  iapply (go_back (sentD X Wq Wo Wk Wv) K c (1, 2) ∅ (since' 5) (since' 0) (before' 5) (since' 6) (before' 6) (by decide) (by decide) (by decide) (by decide) _ rfl (credit_any _)) $$ [HT]
  · isplitr; · iexact HR
    isplitr; · iexact Hlev
    iexact HT
  iintro HT
  iapply (go_back (sentD X Wq Wo Wk Wv) K c (0, 3) ∅ (since' 6) (since' 0) (before' 6) (since' 7) (before' 7) (by decide) (by decide) (by decide) (by decide) _ rfl (credit_any _)) $$ [HT]
  · isplitr; · iexact HR
    isplitr; · iexact Hlev
    iexact HT
  iintro HT
  iapply (go_back (sentD X Wq Wo Wk Wv) K c (1, 3) ∅ (since' 7) (since' 0) (before' 7) (since' 8) (before' 8) (by decide) (by decide) (by decide) (by decide) _ rfl (credit_any _)) $$ [HT]
  · isplitr; · iexact HR
    isplitr; · iexact Hlev
    iexact HT
  iintro HT
  rw [wp_ret]; imodintro
  rw [show since' 8 = ∅ from by decide, show since' 0 = Finset.univ from by decide, show before' 8 = Finset.univ from by decide]
  iapply Hk
  isplitl [HT]; · iexact HT
  isplitl [Hbar]; · iexact Hbar
  isplitl [HX HWq HWo HWk HWv]
  · isplitl [HX]; · iexact HX
    isplitl [HWq]; · iexact HWq
    isplitl [HWo]; · iexact HWo
    isplitl [HWk]; · iexact HWk
    iexact HWv
  isplitl [Ho]; · iexact Ho
  iexact Hr

end Run

end Cert.AttnProof
-- ==== Proof.Data.lean ====
/-
# The proof data of the kernel's one grid point

What each device starts from and ends with, and the body's obligation between the two, at the contents the memory
gives the five operands.
-/
module

public import proofs.«01_k».proof.Proof.Body
public import proofs.«01_k».proof.Proof.Gen.KernelIdeal.Frame

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A family over the kernel's cells: the barrier's, the send cells', the receive cells'. -/
theorem bigSep_xfer {M : Type} [URA M] (Φ : Bool × J → sProp M) :
    bigSep Finset.univ Φ = iprop((bigSep Finset.univ fun j => Φ (false, j)) ∗ bigSep Finset.univ fun j => Φ (true, j)) := by
  rw [bigSep_univ_prod]
  exact bigSep_univ_eq_bigSepL [false, true] (by decide) (by decide) _
theorem bigSep_cell {M : Type} [URA M] (Φ : Cell → sProp M) :
    bigSep Finset.univ Φ = iprop(Φ none ∗ (bigSep Finset.univ fun j => Φ (some (false, j))) ∗ bigSep Finset.univ fun j => Φ (some (true, j))) := by
  rw [bigSep_univ_equiv (Equiv.optionEquivSumPUnit.{0} (Bool × J)).symm Φ, bigSep_univ_sum, ← bigSep_xfer (fun x => Φ (some x))]
  refine Eq.trans (BI.Entails.antisymm BI.sep_comm BI.sep_comm) ?_
  rw [BI.bigSep_univ_of_subsingleton PUnit.unit]
  rfl
/-- The two stages, in the order a device signals their partners. -/
theorem bigSep_order {M : Type} [URA M] (c : Dev nD) (Φ : Fin 2 → sProp M) : bigSep Finset.univ Φ = iprop(Φ (fst c) ∗ Φ (snd c)) :=
  bigSep_univ_eq_bigSepL [fst c, snd c] (by revert c; decide) (by revert c; decide) Φ

variable (m : (ℓ : Loc nD τ sig) → Buf (Elt F) ℓ) (ρ : Dev nD → PrngReg)

/-- The operand blocks of device `c`. -/
def xin (c : Dev nD) : Vec F S1x256x1024 .bf16 := iblk m c 0 t0_0
def wq (c : Dev nD) : Vec F S1024x1024 .bf16 := iblk m c 1 t0_0
def wo (c : Dev nD) : Vec F S1024x1024 .bf16 := iblk m c 2 t0_0
def wk (c : Dev nD) : Vec F S1024x1024 .bf16 := iblk m c 3 t0_0
def wv (c : Dev nD) : Vec F S1024x1024 .bf16 := iblk m c 4 t0_0
/-- What each transfer carries. -/
abbrev sentV : Dev nD → J → Vec F S1x256x256 .bf16 := sentD (xin m) (wq m) (wo m) (wk m) (wv m)
/-- The result on device `c`. -/
def resV (c : Dev nD) : Vec F S1x256x1024 .f32 := resD (xin m) (wq m) (wo m) (wk m) (wv m) c

/-- The tokens of the duties device `c` pays. -/
def payToks (c : Dev nD) : sProp 𝕄 :=
  iprop((bigSep Finset.univ fun s : Fin 2 => dutyTok ER (barC (peer s c)) 0 s) ∗ (bigSep Finset.univ fun j : J => dutyTok ER (sendC c j) 0 (0 : Fin 2))
    ∗ (bigSep Finset.univ fun j : J => dutyTok ER (recvC (peer j.1 c) j) 0 (0 : Fin 2)))

/-- What device `c` has of the protocol: the records of all cells, its positions, its tokens. -/
def ghost (K : Dev nD × Cell → ℕ) (c : Dev nD) : sProp 𝕄 :=
  iprop(records (sentV m) K ∗ (bigSep Finset.univ fun x : Cell => atPos ER (gcell c x) 0 ∅ 0) ∗ payToks (F := F) c)

/-- What device `c`'s body starts from. -/
def start (c : Dev nD) : sProp 𝕄 :=
  iprop((∃ K, ghost m K c) ∗ cred (tallyAt (barC c) () 2) ∗ (bigSep Finset.univ fun j : J => cred (tallyAt (recvC c j) () N)) ∗ levAts L lv)

def Φ₀ (c : Dev nD) : sProp 𝕄 := iprop(start m c ∗ Pipeline.scopedRest cfg0.spec c)
/-- What it ends with: its semaphores at zero, its scratch. -/
def Φ₁ (c : Dev nD) : sProp 𝕄 :=
  iprop(semVal (barC c) 0 ∗ (bigSep Finset.univ fun x : Bool × J => semVal (gcell c (some x)) 0) ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => wq m c
    | ⟨2, _⟩ => wo m c
    | ⟨3, _⟩ => wk m c
    | ⟨4, _⟩ => wv m c
    | ⟨5, _⟩ => resV m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

section Whole
variable {s : Shape} {e : EltTy}
/-- A buffer whose contents read as `V` holds `V` everywhere, -/
theorem filled_of_read (c : Dev nD) (M : Memref sig .tc .vmem s e) (V : Vec F s e) (f : Buf (Elt F) (M.view.loc (c : Thread nD τ))) (h : M.view.read (Elt F) f = V) :
    (M.view.loc (c : Thread nD τ) ↦{fullShare} f) ⊢ filled c M V (fun _ => True) := by
  unfold filled
  iintro H
  iexists f
  isplitr; · ipureintro; exact fun i _ => congrFun h i
  iexact H
/-- and conversely. -/
theorem read_of_filled (c : Dev nD) (M : Memref sig .tc .vmem s e) (V : Vec F s e) (B : s.Idx → Prop) (hB : ∀ i, B i) :
    filled c M V B ⊢ iprop(∃ f, ⌜M.view.read (Elt F) f = V⌝ ∗ (M.view.loc (c : Thread nD τ) ↦{fullShare} f)) := by
  unfold filled
  iintro ⟨%f, %h, H⟩
  iexists f
  isplitr; · ipureintro; exact funext fun i => h i (hB i)
  iexact H
end Whole

theorem stg_in0 (c : Dev nD) : stg c cc0_stg0_0 (xin m c) ⊢ filled (F := F) c (Memref.whole cc0_stg0_0) (xin m c) (fun _ => True) := by
  iintro ⟨%f, %hf, H⟩
  iapply (filled_of_read c (Memref.whole cc0_stg0_0) (xin m c) f ((View.read_whole cc0_stg0_0 f).trans hf)); iexact H
theorem stg_out0 (c : Dev nD) : filled (F := F) c (Memref.whole cc0_stg0_0) (xin m c) (fun _ => True) ⊢ stg c cc0_stg0_0 (xin m c) := by
  iintro H
  ihave H' := (read_of_filled c (Memref.whole cc0_stg0_0) (xin m c) (fun _ => True) (fun _ => trivial)) $$ H
  icases H' with ⟨%f, %hf, H⟩
  iexists f
  isplitr; · ipureintro; exact (View.read_whole cc0_stg0_0 f).symm.trans hf
  iexact H
theorem stg_in1 (c : Dev nD) : stg c cc0_stg1_0 (wq m c) ⊢ filled (F := F) c (Memref.whole cc0_stg1_0) (wq m c) (fun _ => True) := by
  iintro ⟨%f, %hf, H⟩
  iapply (filled_of_read c (Memref.whole cc0_stg1_0) (wq m c) f ((View.read_whole cc0_stg1_0 f).trans hf)); iexact H
theorem stg_out1 (c : Dev nD) : filled (F := F) c (Memref.whole cc0_stg1_0) (wq m c) (fun _ => True) ⊢ stg c cc0_stg1_0 (wq m c) := by
  iintro H
  ihave H' := (read_of_filled c (Memref.whole cc0_stg1_0) (wq m c) (fun _ => True) (fun _ => trivial)) $$ H
  icases H' with ⟨%f, %hf, H⟩
  iexists f
  isplitr; · ipureintro; exact (View.read_whole cc0_stg1_0 f).symm.trans hf
  iexact H
theorem stg_in2 (c : Dev nD) : stg c cc0_stg2_0 (wo m c) ⊢ filled (F := F) c (Memref.whole cc0_stg2_0) (wo m c) (fun _ => True) := by
  iintro ⟨%f, %hf, H⟩
  iapply (filled_of_read c (Memref.whole cc0_stg2_0) (wo m c) f ((View.read_whole cc0_stg2_0 f).trans hf)); iexact H
theorem stg_out2 (c : Dev nD) : filled (F := F) c (Memref.whole cc0_stg2_0) (wo m c) (fun _ => True) ⊢ stg c cc0_stg2_0 (wo m c) := by
  iintro H
  ihave H' := (read_of_filled c (Memref.whole cc0_stg2_0) (wo m c) (fun _ => True) (fun _ => trivial)) $$ H
  icases H' with ⟨%f, %hf, H⟩
  iexists f
  isplitr; · ipureintro; exact (View.read_whole cc0_stg2_0 f).symm.trans hf
  iexact H
theorem stg_in3 (c : Dev nD) : stg c cc0_stg3_0 (wk m c) ⊢ filled (F := F) c (Memref.whole cc0_stg3_0) (wk m c) (fun _ => True) := by
  iintro ⟨%f, %hf, H⟩
  iapply (filled_of_read c (Memref.whole cc0_stg3_0) (wk m c) f ((View.read_whole cc0_stg3_0 f).trans hf)); iexact H
theorem stg_out3 (c : Dev nD) : filled (F := F) c (Memref.whole cc0_stg3_0) (wk m c) (fun _ => True) ⊢ stg c cc0_stg3_0 (wk m c) := by
  iintro H
  ihave H' := (read_of_filled c (Memref.whole cc0_stg3_0) (wk m c) (fun _ => True) (fun _ => trivial)) $$ H
  icases H' with ⟨%f, %hf, H⟩
  iexists f
  isplitr; · ipureintro; exact (View.read_whole cc0_stg3_0 f).symm.trans hf
  iexact H
theorem stg_in4 (c : Dev nD) : stg c cc0_stg4_0 (wv m c) ⊢ filled (F := F) c (Memref.whole cc0_stg4_0) (wv m c) (fun _ => True) := by
  iintro ⟨%f, %hf, H⟩
  iapply (filled_of_read c (Memref.whole cc0_stg4_0) (wv m c) f ((View.read_whole cc0_stg4_0 f).trans hf)); iexact H
theorem stg_out4 (c : Dev nD) : filled (F := F) c (Memref.whole cc0_stg4_0) (wv m c) (fun _ => True) ⊢ stg c cc0_stg4_0 (wv m c) := by
  iintro H
  ihave H' := (read_of_filled c (Memref.whole cc0_stg4_0) (wv m c) (fun _ => True) (fun _ => trivial)) $$ H
  icases H' with ⟨%f, %hf, H⟩
  iexists f
  isplitr; · ipureintro; exact (View.read_whole cc0_stg4_0 f).symm.trans hf
  iexact H
theorem stg_out5 (c : Dev nD) : chunks (F := F) c (Memref.whole cc0_stg5_0) (xin m) (wq m) (wo m) (wk m) (wv m) 4 ⊢ stg c cc0_stg5_0 (resV m c) := by
  iintro H
  ihave H' := (show chunks (F := F) c (Memref.whole cc0_stg5_0) (xin m) (wq m) (wo m) (wk m) (wv m) 4 ⊢ _ from
    read_of_filled c (Memref.whole cc0_stg5_0) (resV m c) (fun i => (i 2).val < 256 * 4) (fun i => by have : (i 2).val < 1024 := (i 2).isLt; show _ < 256 * 4; omega)) $$ H
  icases H' with ⟨%f, %hf, H⟩
  iexists f
  isplitr; · ipureintro; exact (View.read_whole cc0_stg5_0 f).symm.trans hf
  iexact H

/-- The send slots of a device are its two send buffers, -/
theorem send_slots (c : Dev nD) (f1 : Buf (Elt F) ((c : Thread nD τ).loc cc0_scratch1)) (f2 : Buf (Elt F) ((c : Thread nD τ).loc cc0_scratch2)) :
    iprop((((c : Thread nD τ).loc cc0_scratch1) ↦{fullShare} f1) ∗ (((c : Thread nD τ).loc cc0_scratch2) ↦{fullShare} f2))
      ⊢ bigSep Finset.univ fun j : J => slotFree (F := F) c (sendM j.1) j.2 := by
  rw [bigSep_univ_prod, bigSep_univ_two]
  iintro ⟨H1, H2⟩
  isplitl [H1]
  · iapply (slots_split c (sendM 0) (View.set_whole _) f1); iexact H1
  · iapply (slots_split c (sendM 1) (View.set_whole _) f2); iexact H2
theorem send_slots_back (c : Dev nD) (f1 : Buf (Elt F) ((c : Thread nD τ).loc cc0_scratch1)) (f2 : Buf (Elt F) ((c : Thread nD τ).loc cc0_scratch2)) :
    (bigSep Finset.univ fun j : J => slotFree (F := F) c (sendM j.1) j.2)
      ⊢ iprop((∃ f, ((c : Thread nD τ).loc cc0_scratch1) ↦{fullShare} f) ∗ (∃ f, ((c : Thread nD τ).loc cc0_scratch2) ↦{fullShare} f)) := by
  rw [bigSep_univ_prod, bigSep_univ_two]
  iintro ⟨H1, H2⟩
  isplitl [H1]
  · iapply (slots_join c (sendM 0) (View.set_whole _) f1); iexact H1
  · iapply (slots_join c (sendM 1) (View.set_whole _) f2); iexact H2
/-- and the landing slots its two landing buffers. -/
theorem recv_slots (c : Dev nD) (f3 : Buf (Elt F) ((c : Thread nD τ).loc cc0_scratch3)) (f4 : Buf (Elt F) ((c : Thread nD τ).loc cc0_scratch4)) :
    iprop((((c : Thread nD τ).loc cc0_scratch3) ↦{fullShare} f3) ∗ (((c : Thread nD τ).loc cc0_scratch4) ↦{fullShare} f4))
      ⊢ iprop((bigSep Finset.univ fun k : Fin 4 => slotFree (F := F) c (recvM (fst c)) k) ∗ (bigSep Finset.univ fun k : Fin 4 => slotFree (F := F) c (recvM (snd c)) k)) := by
  refine BIBase.Entails.trans ?_ (Entails.of_eq (bigSep_order c fun s => bigSep Finset.univ fun k : Fin 4 => slotFree (F := F) c (recvM s) k))
  rw [bigSep_univ_two]
  iintro ⟨H1, H2⟩
  isplitl [H1]
  · iapply (slots_split c (recvM 0) (View.set_whole _) f3); iexact H1
  · iapply (slots_split c (recvM 1) (View.set_whole _) f4); iexact H2
theorem recv_slots_back (c : Dev nD) (f3 : Buf (Elt F) ((c : Thread nD τ).loc cc0_scratch3)) (f4 : Buf (Elt F) ((c : Thread nD τ).loc cc0_scratch4)) :
    (bigSep Finset.univ fun j : J => slotFree (F := F) c (recvM j.1) j.2)
      ⊢ iprop((∃ f, ((c : Thread nD τ).loc cc0_scratch3) ↦{fullShare} f) ∗ (∃ f, ((c : Thread nD τ).loc cc0_scratch4) ↦{fullShare} f)) := by
  rw [bigSep_univ_prod, bigSep_univ_two]
  iintro ⟨H1, H2⟩
  isplitl [H1]
  · iapply (slots_join c (recvM 0) (View.set_whole _) f3); iexact H1
  · iapply (slots_join c (recvM 1) (View.set_whole _) f4); iexact H2

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (xin m c) ∗ stg c cc0_stg1_0 (wq m c) ∗ stg c cc0_stg2_0 (wo m c)
    ∗ stg c cc0_stg3_0 (wk m c) ∗ stg c cc0_stg4_0 (wv m c) ∗ stg c cc0_stg5_0 (resV m c))

/-- What the protocol's part of the start makes of it. -/
theorem holds_intro (c : Dev nD) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) :
    iprop((bigSep Finset.univ fun x : Cell => atPos ER (gcell c x) 0 ∅ 0) ∗ payToks (F := F) c ∗ cred (tallyAt (barC c) () 2) ∗ (bigSep Finset.univ fun j : J => cred (tallyAt (recvC c j) () N))
        ∗ (((c : Thread nD τ).loc cc0_scratch1) ↦{fullShare} f1) ∗ (((c : Thread nD τ).loc cc0_scratch2) ↦{fullShare} f2)
        ∗ (((c : Thread nD τ).loc cc0_scratch3) ↦{fullShare} f3) ∗ (((c : Thread nD τ).loc cc0_scratch4) ↦{fullShare} f4))
      ⊢ holds (F := F) c := by
  unfold payToks holds ready expecting
  rw [bigSep_cell, bigSep_order c (fun s => (dutyTok ER (barC (peer s c)) 0 s : sProp 𝕄)), bigSep_sep', bigSep_sep', bigSep_sep', bigSep_sep']
  iintro ⟨⟨HaB, HaS, HaV⟩, ⟨⟨Ht1, Ht2⟩, HtS, HtV⟩, HcB, HcV, H1, H2, H3, H4⟩
  ihave Hs := (send_slots c f1 f2) $$ [H1 H2]
  · isplitl [H1] <;> iassumption
  ihave Hr := (recv_slots c f3 f4) $$ [H3 H4]
  · isplitl [H3] <;> iassumption
  icases Hr with ⟨Hr1, Hr2⟩
  isplitl [HcB]; · iexact HcB
  isplitl [HaB]; · iexact HaB
  isplitl [Ht1]; · iexact Ht1
  isplitl [Ht2]; · iexact Ht2
  isplitl [Hr1]; · iexact Hr1
  isplitl [Hr2]; · iexact Hr2
  isplitl [Hs HtS HtV HaS]
  · isplitl [Hs]; · iexact Hs
    isplitl [HtS]; · iexact HtS
    isplitl [HtV]; · iexact HtV
    iexact HaS
  · isplitl [HcV]; · iexact HcV
    iexact HaV

/-- What all transfers leave. -/
theorem transfers_exit (c : Dev nD) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) :
    transfers (F := F) c ∅ ∅ ∅ Finset.univ Finset.univ
      ⊢ iprop((∃ W, owes (c : Thread nD τ) 0 W) ∗ (bigSep Finset.univ fun x : Bool × J => semVal (gcell c (some x)) 0)
        ∗ ((∃ f, ((c : Thread nD τ).loc cc0_scratch1) ↦{fullShare} f) ∗ (∃ f, ((c : Thread nD τ).loc cc0_scratch2) ↦{fullShare} f))
        ∗ ((∃ f, ((c : Thread nD τ).loc cc0_scratch3) ↦{fullShare} f) ∗ (∃ f, ((c : Thread nD τ).loc cc0_scratch4) ↦{fullShare} f))) := by
  unfold transfers owing landed returned
  rw [Osend_empty, bigSep_xfer, bigSep_sep', bigSep_sep']
  iintro ⟨HO, -, -, -, -, ⟨HzV, HsV⟩, ⟨HzS, HsS⟩⟩
  isplitl [HO]; · iexact HO
  isplitl [HzS HzV]
  · isplitl [HzS] <;> iassumption
  isplitl [HsS]
  · iapply (send_slots_back c f1 f2); iexact HsS
  · iapply (recv_slots_back c f3 f4); iexact HsV

set_option maxHeartbeats 1600000 in
/-- The body at the memory's contents. -/
theorem sound_body (c : Dev nD) (Kt : PUnit → sProp 𝕄) :
    iprop(bodyPre m ρ c ∗ (bodyPost m ρ c -∗ Kt ⟨⟩)) ⊢ wp frame (wpE (defs₀ (F := F)) 𝒱₀ c none) Set.univ (bodyAt0 (F := F) t0_0) Kt := by
  unfold bodyPre Φ₀ start ghost
  rw [scopedRest0_eq]
  iintro ⟨⟨⟨⟨⟨%K, #HR, Hat, Htok⟩, HcB, HcV, #Hlev⟩, ⟨%f0, H0⟩, ⟨%f1, H1⟩, ⟨%f2, H2⟩, ⟨%f3, H3⟩, ⟨%f4, H4⟩⟩, Ho,
    ⟨%d0, %g0, %e0, S0⟩, ⟨%d1, %g1, %e1, S1⟩, ⟨%d2, %g2, %e2, S2⟩, ⟨%d3, %g3, %e3, S3⟩, ⟨%d4, %g4, %e4, S4⟩, ⟨%d5, %g5, %e5, S5⟩⟩, Hk⟩
  have h0 : g0 = xin m c := by rw [e0]; unfold Dat.before; rw [if_pos (fetch0_0 t0_0)]; rfl
  have h1 : g1 = wq m c := by rw [e1]; unfold Dat.before; rw [if_pos (fetch0_1 t0_0)]; rfl
  have h2 : g2 = wo m c := by rw [e2]; unfold Dat.before; rw [if_pos (fetch0_2 t0_0)]; rfl
  have h3 : g3 = wk m c := by rw [e3]; unfold Dat.before; rw [if_pos (fetch0_3 t0_0)]; rfl
  have h4 : g4 = wv m c := by rw [e4]; unfold Dat.before; rw [if_pos (fetch0_4 t0_0)]; rfl
  unfold Dat.owesAt Pipeline.owesWithin
  icases Ho with ⟨%W, %hW, HO⟩
  rw [show (dats m ρ 0 c).owed t0_0.castSucc = O₀ c from rfl]
  ihave Hh := (holds_intro c f1 f2 f3 f4) $$ [Hat Htok HcB HcV H1 H2 H3 H4]
  · isplitl [Hat]; · iexact Hat
    isplitl [Htok]; · iexact Htok
    isplitl [HcB]; · iexact HcB
    isplitl [HcV]; · iexact HcV
    isplitl [H1]; · iexact H1
    isplitl [H2]; · iexact H2
    isplitl [H3]; · iexact H3
    iexact H4
  iapply (run_body (xin m) (wq m) (wo m) (wk m) (wv m) K c W Kt) $$ [HO Hh H0 S0 S1 S2 S3 S4 S5]
  · isplitr; · iexact HR
    isplitr; · iexact Hlev
    isplitl [HO]; · iexact HO
    isplitl [Hh]; · iexact Hh
    isplitl [S0 S1 S2 S3 S4]
    · unfold operands
      isplitl [S0]; · iapply (stg_in0 m c); iexists g0; isplitr; (· ipureintro; exact h0); iexact S0
      isplitl [S1]; · iapply (stg_in1 m c); iexists g1; isplitr; (· ipureintro; exact h1); iexact S1
      isplitl [S2]; · iapply (stg_in2 m c); iexists g2; isplitr; (· ipureintro; exact h2); iexact S2
      isplitl [S3]; · iapply (stg_in3 m c); iexists g3; isplitr; (· ipureintro; exact h3); iexact S3
      iapply (stg_in4 m c); iexists g4; isplitr; (· ipureintro; exact h4); iexact S4
    isplitl [H0]; · iexists f0; iexact H0
    iexists g5; iexact S5
  unfold operands
  iintro ⟨HT, HzB, ⟨S0, S1, S2, S3, S4⟩, H0, S5⟩
  ihave HT := (transfers_exit c f1 f2 f3 f4) $$ HT
  icases HT with ⟨⟨%W', HO⟩, Hz, ⟨H1, H2⟩, ⟨H3, H4⟩⟩
  ihave H0 := (show heads c (Memref.whole cc0_scratch0) (proj (xin m c) (wq m c)) (proj (xin m c) (wk m c)) (proj (xin m c) (wv m c)) 8 ⊢ _ from
    read_of_filled c (Memref.whole cc0_scratch0) (oV (proj (xin m c) (wq m c)) (proj (xin m c) (wk m c)) (proj (xin m c) (wv m c))) (fun i => (i 1).val < 128 * 8)
      (fun i => by have : (i 1).val < 1024 := (i 1).isLt; show _ < 128 * 8; omega)) $$ H0
  icases H0 with ⟨%f0', -, H0⟩
  iapply Hk
  unfold bodyPost Φ₁ Dat.owesAt Pipeline.owesWithin
  rw [show (dats m ρ 0 c).owed t0_0.succ = 0 from rfl, scopedRest0_eq]
  isplitl [HzB Hz H0 H1 H2 H3 H4]
  · isplitl [HzB]; · iexact HzB
    isplitl [Hz]; · iexact Hz
    isplitl [H0]; · iexists f0'; iexact H0
    isplitl [H1]; · iexact H1
    isplitl [H2]; · iexact H2
    isplitl [H3]; · iexact H3
    iexact H4
  isplitl [HO]
  · iexists W'
    isplitr; · ipureintro; exact fun _ _ => Or.inl trivial
    iexact HO
  isplitl [S0]; · iapply (stg_out0 m c); iexact S0
  isplitl [S1]; · iapply (stg_out1 m c); iexact S1
  isplitl [S2]; · iapply (stg_out2 m c); iexact S2
  isplitl [S3]; · iapply (stg_out3 m c); iexact S3
  isplitl [S4]; · iapply (stg_out4 m c); iexact S4
  iapply (stg_out5 m c); iexact S5

set_option maxRecDepth 4000 in
/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (bodyAt0 (F := F) t0_0) (fun _ => bodyPost m ρ c)
  iintro H
  iapply (sound_body m ρ c fun _ => bodyPost m ρ c)
  isplitl [H]; · iexact H
  iintro H; iexact H

end Cert.AttnProof
-- ==== Proof.Launch.lean ====
/-
# The launch and the run

The cells' invariants are allocated on all devices at once, the duty tokens dealt to the devices that pay, the
launch's credits read off what the devices owe; then the run of the whole program on the four devices, for any float
values.
-/
module

public import proofs.«01_k».proof.Proof.Data
public import Idealize.ShloMosaic.Lib.Pipeline.CollectiveSegs

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel's own semaphores: the send and receive cells. -/
abbrev osem : Bool × J → SemLoc sig := fun x => csem (some x)

theorem ownSemFacts : Pipeline.OwnSemFacts cfg0.spec osem := by decide +kernel

abbrev kcell (p : Dev nD × Cell) : GSem nD τ sig := gcell p.1 p.2
theorem kcell_injective : Function.Injective kcell := fun p q h =>
  Prod.ext (Fin.ext (congrArg (fun g : GSem nD τ sig => g.1.1.val) h)) (csem_injective (congrArg Prod.snd h))
def allCells : Finset (GSem nD τ sig) := Finset.univ.map ⟨kcell, kcell_injective⟩

/-- The duty tokens as minted: a device, and which duty of its cells. -/
abbrev tokOf (p : Dev nD × (Fin 2 ⊕ Bool × J)) : GSem nD τ sig × ℕ × Fin 2 := match p.2 with
  | .inl s => (barC p.1, 0, s)
  | .inr x => (gcell p.1 (some x), 0, 0)
theorem tokOf_injective : Function.Injective tokOf := by
  rintro ⟨c, t⟩ ⟨c', t'⟩ h
  have hc : c = c' := by
    have := congrArg (fun x : GSem nD τ sig × ℕ × Fin 2 => x.1.1.1) h
    rcases t with s | x <;> rcases t' with s' | x' <;> exact this
  subst hc
  have hs := congrArg (fun x : GSem nD τ sig × ℕ × Fin 2 => x.1.2) h
  have hd := congrArg (fun x : GSem nD τ sig × ℕ × Fin 2 => x.2.2) h
  rcases t with s | x <;> rcases t' with s' | x'
  · have : s = s' := hd
    rw [this]
  · have : (none : Cell) = some x' := csem_injective hs
    cases this
  · have : (some x : Cell) = none := csem_injective hs
    cases this
  · have : (some x : Cell) = some x' := csem_injective hs
    rw [Option.some.inj this]
def allToks : Finset (GSem nD τ sig × ℕ × Fin 2) := Finset.univ.map ⟨tokOf, tokOf_injective⟩

def u₀ : UU := (initOf (Pipeline.cells cfgs cellOf_inj) (Pipeline.launchToks cfgs cellOf_inj), initOf allCells allToks)

/-- The duty tokens of device `c`'s own cells. -/
def toks (c : Dev nD) : sProp 𝕄 :=
  iprop((bigSep Finset.univ fun s : Fin 2 => dutyTok ER (barC c) 0 s) ∗ (bigSep Finset.univ fun j : J => dutyTok ER (sendC c j) 0 (0 : Fin 2))
    ∗ (bigSep Finset.univ fun j : J => dutyTok ER (recvC c j) 0 (0 : Fin 2)))

section Ghost
variable (m : (ℓ : Loc nD τ sig) → Buf (Elt F) ℓ) (ρ : Dev nD → PrngReg)

/-- What the launch deals device `c`. -/
def G (c : Dev nD) : sProp 𝕄 :=
  iprop((bigSep Finset.univ fun x : Cell => roundState ER (Rd (sentV m)) (gcell c x) 0)
    ∗ (bigSep Finset.univ fun x : Cell => iprop(atPos ER (gcell c x) 0 ∅ 0 ∗ reached ER (gcell c x) 0)) ∗ toks (F := F) c)
/-- What all devices together make of it. -/
def G' (c : Dev nD) : sProp 𝕄 := iprop(∃ K, ghost m K c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : Cell => Φ (gcell c x) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by
      unfold toks
      rw [bigSep_univ_sum, bigSep_xfer]; rfl
  iintro HX
  imod (Rounds.fund ER (Rd (sentV m)) allCells allToks) $$ HX with ⟨Hst, Hr, Hat, Htok⟩
  imodintro
  ihave Hst' := (Entails.of_eq (hX fun g => roundState ER (Rd (sentV m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one semaphore outside the kernel's scope. -/
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : Cell => semVal (gcell c x) 0 : sProp 𝕄) := by
  unfold Pipeline.ownSems0
  rw [unscopedSems0_eq, bigSep_cell, bigSep_xfer]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cell => iprop(∃ κ : ℕ, cellInv ER (Rd (sentV m)) κ (gcell c x)))
          ∗ (bigSep Finset.univ fun x : Cell => iprop(atPos ER (gcell c x) 0 ∅ 0 ∗ reached ER (gcell c x) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun x : Cell => semVal (gcell c x) 0) ∗ bigSep Finset.univ fun x : Cell => roundState ER (Rd (sentV m)) (gcell c x) 0)
      ⊢ (|={Set.univ}=> bigSep Finset.univ fun x : Cell => iprop(∃ κ : ℕ, cellInv ER (Rd (sentV m)) κ (gcell c x)) : sProp 𝕄) from by
        rw [← bigSep_sep']
        exact (bigSep_mono fun x _ => (Rounds.body_intro ER (Rd (sentV m)) (gcell c x)).trans inv_alloc).trans (bigSep_fupd _ _)) $$ [Hv Hst] with Hinv
  · isplitl [Hv] <;> iassumption
  imodintro
  isplitl [Hinv]; · iexact Hinv
  isplitl [Hat]; · iexact Hat
  iexact Htok

/-- A family dealt to partners: device `c` gets from every index what its partner at that index's stage had. -/
theorem around {I : Type} [Fintype I] (σ : I → Fin 2) (A : Dev nD → I → sProp 𝕄) :
    (bigSep Finset.univ fun c : Dev nD => bigSep Finset.univ fun i : I => A c i) = bigSep Finset.univ fun c : Dev nD => bigSep Finset.univ fun i : I => A (peer (σ i) c) i := by
  rw [bigSep_univ_comm, bigSep_univ_comm (fun (c : Dev nD) (i : I) => A (peer (σ i) c) i)]
  exact bigSep_congr fun i _ => bigSep_univ_equiv (peerEquiv (σ i)) (fun c : Dev nD => A c i)

theorem toks_around : (bigSep Finset.univ fun c : Dev nD => toks (F := F) c) ⊢ bigSep Finset.univ fun c : Dev nD => payToks (F := F) c := by
  unfold toks payToks
  rw [bigSep_sep', bigSep_sep', bigSep_sep', bigSep_sep',
    around (fun s : Fin 2 => s) (fun (c : Dev nD) s => (dutyTok ER (barC c) 0 s : sProp 𝕄)),
    around (fun j : J => j.1) (fun (c : Dev nD) j => (dutyTok ER (recvC c j) 0 (0 : Fin 2) : sProp 𝕄))]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Cell → ℕ) (c : Dev nD) :
    iprop(records (sentV m) K ∗ (bigSep Finset.univ fun x : Cell => atPos ER (gcell c x) 0 ∅ 0) ∗ payToks (F := F) c) ⊢ G' m c := by
  unfold G' ghost
  iintro H
  iexists K; iexact H

theorem regroup :
    (bigSep Finset.univ fun c : Dev nD => iprop((bigSep Finset.univ fun x : Cell => iprop(∃ κ : ℕ, cellInv ER (Rd (sentV m)) κ (gcell c x)))
          ∗ (bigSep Finset.univ fun x : Cell => iprop(atPos ER (gcell c x) 0 ∅ 0 ∗ reached ER (gcell c x) 0)) ∗ toks (F := F) c) : sProp 𝕄)
      ⊢ bigSep Finset.univ (G' m) := by
  rw [bigSep_sep', bigSep_sep', ← bigSep_univ_prod (fun p : Dev nD × Cell => iprop(∃ κ : ℕ, cellInv ER (Rd (sentV m)) κ (gcell p.1 p.2))),
    bigSep_congr (s := Finset.univ) (fun (c : Dev nD) _ => bigSep_sep' Finset.univ (fun x : Cell => (atPos ER (gcell c x) 0 ∅ 0 : sProp 𝕄)) (fun x => reached ER (gcell c x) 0)),
    bigSep_sep', ← bigSep_univ_prod (fun p : Dev nD × Cell => (reached ER (gcell p.1 p.2) 0 : sProp 𝕄))]
  iintro ⟨HI, ⟨Hat, #HR⟩, Htok⟩
  ihave HK := (BI.bigSep_exists_pi Finset.univ (fun (p : Dev nD × Cell) (κ : ℕ) => (cellInv ER (Rd (sentV m)) κ (gcell p.1 p.2) : sProp 𝕄))) $$ HI
  icases HK with ⟨%K, #HI⟩
  ihave Htk := (toks_around (F := F)) $$ Htok
  iapply (with_persistent (R := records (sentV m) K) fun c _ => ghost_intro m K c)
  isplitr
  · unfold records; isplitl; · iexact HI
    iexact HR
  · iapply (Entails.of_eq (bigSep_sep' Finset.univ (fun c : Dev nD => bigSep Finset.univ fun x : Cell => (atPos ER (gcell c x) 0 ∅ 0 : sProp 𝕄)) (payToks (F := F))).symm)
    isplitl [Hat]; · iexact Hat
    iexact Htk

/-- All devices' semaphores at once become the protocol's cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))
end Ghost

/-! ## The launch's credits -/

theorem gcell_dev {a b : Dev nD} {x : Cell} : gcell a x = gcell b x ↔ a = b :=
  ⟨fun h => Fin.ext (congrArg (fun g : GSem nD τ sig => g.1.1.val) h), fun h => h ▸ rfl⟩
theorem gcell_ne {a b : Dev nD} {x y : Cell} (h : x ≠ y) : gcell a x ≠ gcell b y := fun e => h (csem_injective (congrArg Prod.snd e))

theorem Osend_at (d : Dev nD) (g : GSem nD τ sig) : Osend d Finset.univ g () = ∑ j : J, (tallyAt (recvC (peer j.1 d) j) () N : CellTallies nD τ sig Unit) g () := by
  unfold Osend; rw [Finset.sum_apply, Finsupp.finset_sum_apply]

theorem owed_bar (d c : Dev nD) : O₀ d (barC c) () = (if peer (snd d) d = c then 1 else 0) + (if peer (fst d) d = c then 1 else 0) := by
  unfold O₀ O₁
  rw [Pi.add_apply, Finsupp.add_apply, Pi.add_apply, Finsupp.add_apply, Osend_at, Finset.sum_eq_zero fun j _ => by
    rw [tallyAt_ne_cell (gcell_ne (by simp))]; rfl, tallyAt_apply, tallyAt_apply, Nat.zero_add]
  congr 1 <;> exact if_congr ⟨fun h => (gcell_dev.mp h.1).symm, fun h => ⟨by rw [h], rfl⟩⟩ rfl rfl

theorem owed_recv (d c : Dev nD) (j : J) : O₀ d (recvC c j) () = if d = peer j.1 c then N else 0 := by
  unfold O₀ O₁
  rw [Pi.add_apply, Finsupp.add_apply, Pi.add_apply, Finsupp.add_apply, Osend_at, tallyAt_ne_cell (gcell_ne (by simp)), tallyAt_ne_cell (gcell_ne (by simp)),
    Finsupp.zero_apply, Nat.add_zero, Nat.add_zero, Finset.sum_eq_single j (fun i _ hi => by rw [tallyAt_ne_cell (gcell_ne (by simpa using fun h => hi h.symm))]; rfl) (fun h => absurd (Finset.mem_univ _) h), tallyAt_apply]
  exact if_congr ⟨fun h => by rw [gcell_dev.mp h.1, peer_peer], fun h => ⟨by rw [h, peer_peer], rfl⟩⟩ rfl rfl

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (j : J) :
    tallyOn (recvC c j) (launchCredit (Pipeline.owing O₀) 0 (recvC c j)) = (tallyAt (recvC c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (peer j.1 c) fun _ => N,
    if_pos (Finset.mem_univ _)]

theorem creds (c : Dev nD) :
    (Pipeline.launchCred O₀ c : sProp 𝕄) ⊢ iprop(cred (tallyAt (barC c) () 2) ∗ bigSep Finset.univ fun j : J => cred (tallyAt (recvC c j) () N)) := by
  unfold Pipeline.launchCred
  refine BIBase.Entails.trans (show _ ⊢ _ from BI.bigSep_subset (Finset.subset_univ (Finset.univ.map ⟨csem, csem_injective⟩))) ?_
  rw [bigSep_map, bigSep_cell]
  simp only [Function.Embedding.coeFn_mk]
  rw [launch_bar, bigSep_congr (s := Finset.univ) (fun (j : J) _ => congrArg (fun t => (cred t : sProp 𝕄)) (launch_recv c j))]
  iintro ⟨H1, -, H2⟩
  isplitl [H1] <;> iassumption

/-! ## The run -/
section Run
variable (m : (ℓ : Loc nD τ sig) → Buf (Elt F) ℓ) (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁ Pipeline.ownSems0
  iintro H; iexact H

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the arrays of window `w` hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with all counters at zero, every weakly fair execution of
    the program ends, with the windows' arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Run

end Cert.AttnProof
-- ==== Proof.Arrays.lean ====
/-
# The argument arrays and the result after the run

The program's run, read at the arrays of `@main`: the five arguments as launched, and the result, one block that is the
whole array, as the body leaves it.
-/
module

public import proofs.«01_k».proof.Proof.Launch
public import Idealize.ShloMosaic.Lib.Pipeline.ValueKit

@[expose] public section

set_option maxRecDepth 16384

noncomputable section

namespace Cert.AttnProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Frames
variable (m : (ℓ : Loc nD τ sig) → Buf (Elt F) ℓ) (ρ : Dev nD → PrngReg)

/-- A block that is the whole array, read, is the array: the activations. -/
theorem xin_eq (c : Dev nD) : xin m c = m ((c.tc : Thread nD τ).loc main_arg0) := by
  have h0 : ∀ a, win0_0.index t0_0 a = 0 := by decide +kernel
  unfold xin
  funext y
  blk_simp [iblk, V]
  congr 1
  funext a
  apply Fin.ext
  fin_cases a <;> blk_simp <;> simp only [h0, Nat.zero_mul, Nat.zero_add] <;> rfl

/-- The query weights. -/
theorem wq_eq (c : Dev nD) : wq m c = m ((c.tc : Thread nD τ).loc main_arg1) := by
  have h0 : ∀ a, win0_1.index t0_0 a = 0 := by decide +kernel
  unfold wq
  funext y
  blk_simp [iblk, V]
  congr 1
  funext a
  apply Fin.ext
  fin_cases a <;> blk_simp <;> simp only [h0, Nat.zero_mul, Nat.zero_add] <;> rfl

/-- The output weights. -/
theorem wo_eq (c : Dev nD) : wo m c = m ((c.tc : Thread nD τ).loc main_arg4) := by
  have h0 : ∀ a, win0_2.index t0_0 a = 0 := by decide +kernel
  unfold wo
  funext y
  blk_simp [iblk, V]
  congr 1
  funext a
  apply Fin.ext
  fin_cases a <;> blk_simp <;> simp only [h0, Nat.zero_mul, Nat.zero_add] <;> rfl

/-- The key weights. -/
theorem wk_eq (c : Dev nD) : wk m c = m ((c.tc : Thread nD τ).loc main_arg2) := by
  have h0 : ∀ a, win0_3.index t0_0 a = 0 := by decide +kernel
  unfold wk
  funext y
  blk_simp [iblk, V]
  congr 1
  funext a
  apply Fin.ext
  fin_cases a <;> blk_simp <;> simp only [h0, Nat.zero_mul, Nat.zero_add] <;> rfl

/-- The value weights. -/
theorem wv_eq (c : Dev nD) : wv m c = m ((c.tc : Thread nD τ).loc main_arg3) := by
  have h0 : ∀ a, win0_4.index t0_0 a = 0 := by decide +kernel
  unfold wv
  funext y
  blk_simp [iblk, V]
  congr 1
  funext a
  apply Fin.ext
  fin_cases a <;> blk_simp <;> simp only [h0, Nat.zero_mul, Nat.zero_add] <;> rfl

/-- After the run the result's array holds what the body leaves in its block. -/
theorem finalA_out (c : Dev nD) : finalA m ρ c 5 = resV m c := by
  unfold finalA
  refine (dats m ρ 0 c).arrAt_eq_of_after_last (5 : Fin 6) t0_0 (by decide +kernel) _ ?_
  exact fun _ => rfl

/-- What a run leaves in the arguments and the result of every device, the counters at zero. -/
theorem run_arrays :
    θ_run defs (onTc (τ := τ) (main (F := F))) ⟨m, fun _ => 0, ρ⟩ (fun r => (∀ c : Dev nD,
      r.2.mem ((c.tc : Thread nD τ).loc main_v1) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c 5).trans (finalA_out m ρ c),
     (h.1 c 0).trans ((dats m ρ 0 c).arrAt_in (0 : Fin 6) rfl _),
     (h.1 c 1).trans ((dats m ρ 0 c).arrAt_in (1 : Fin 6) rfl _),
     (h.1 c 3).trans ((dats m ρ 0 c).arrAt_in (3 : Fin 6) rfl _),
     (h.1 c 4).trans ((dats m ρ 0 c).arrAt_in (4 : Fin 6) rfl _),
     (h.1 c 2).trans ((dats m ρ 0 c).arrAt_in (2 : Fin 6) rfl _)⟩, h.2⟩) (run_main m ρ)

/-- The arguments of every device end as launched, the counters at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_arrays m ρ)

end Frames

end Cert.AttnProof

end
-- ==== Proof.lean ====
/-
# The claim

The kernel's two programs have one text, so one run (Proof/Launch.lean, read at the arrays in Proof/Arrays.lean), taken
at the machine's floats and at the extended reals, gives both frames and the kernel's side of the equation; the
equation of the contents is Proof/Value.lean's. The reference's run is the generated one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import proofs.«01_k».proof.Proof.Value
public import proofs.«01_k».proof.Proof.Arrays
public import Idealize.ShloMosaic.Adequacy
public import Idealize.ShloMosaic.Init

@[expose] public section

noncomputable section

namespace Cert.Proof

open Idealize.ShloMosaic Idealize.SL.Sem

/-- The kernel's bodies, read in either program, are the same. -/
theorem bodies_eq {F : FTy → Type} [FloatOps F] : Cert.Kernel.defs₀ (F := F) = Cert.KernelIdeal.defs₀ (F := F) :=
  congrArg Defs.onTc (funext fun l => funext fun a => match l, a with
    | 0, (_, _) => rfl
    | ⟨_ + 1, h⟩, _ => absurd h (Nat.not_lt.2 (Nat.le_add_left _ _)))

/-- The pipelines over the bodies too. -/
theorem pipelines_eq {F : FTy → Type} [FloatOps F] : Cert.Kernel.defs (F := F) = Cert.KernelIdeal.defs (F := F) :=
  congrArg (Pipeline.defs Cert.KernelIdeal.pcfgs) bodies_eq

/-- The kernel, at the machine's floats, ends with its arguments as launched and every counter at zero. -/
theorem frame_kernel : Cert.quiescent_Kernel := by
  intro m ρ _
  rw [pipelines_eq]
  exact Cert.AttnProof.run_frame (F := Bits) m ρ

/-- The kernel, at the extended reals, ends with its arguments as launched and every counter at zero. -/
theorem frame_kernelIdeal : Cert.quiescent_KernelIdeal := fun m ρ _ => Cert.AttnProof.run_frame (F := Ideal) m ρ

/-- The reference ends with its arguments as launched; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite activations and query and key weights every device of the kernel ends with the reference's result. -/
theorem algebraic_kernel : Cert.algebraic_KernelIdeal_ReferenceIdeal_pre_scores_finite_KernelIdeal := by
  intro m g m' g' hP hA
  have hx (c) : Cert.AttnProof.xin (F := Ideal) m c = _ := (Cert.AttnProof.xin_eq m c).trans (hA c).1
  have hq := Cert.AttnProof.colBlocks_of_block fun c => (Cert.AttnProof.wq_eq (F := Ideal) m c).trans (hA c).2.1
  have hk := Cert.AttnProof.colBlocks_of_block fun c => (Cert.AttnProof.wk_eq (F := Ideal) m c).trans (hA c).2.2.1
  have hv := Cert.AttnProof.colBlocks_of_block fun c => (Cert.AttnProof.wv_eq (F := Ideal) m c).trans (hA c).2.2.2.1
  have ho := Cert.AttnProof.rowBlocks_of_block fun c => (Cert.AttnProof.wo_eq (F := Ideal) m c).trans (hA c).2.2.2.2
  have fx (i) : Cert.AttnProof.IsReal (m' (((0 : Dev Cert.ReferenceIdeal.nD).tc : Thread Cert.ReferenceIdeal.nD Cert.ReferenceIdeal.τ).loc Cert.ReferenceIdeal.main_arg0) i) := by
    rw [← (hA 0).1]
    exact Cert.AttnProof.pre_x _ _ _ _ _ (hP 0).1 i
  have fq := Cert.AttnProof.real_of_blocks hq fun c i => by
    rw [Cert.AttnProof.wq_eq]
    exact Cert.AttnProof.pre_wq _ _ _ _ _ (hP c).2.1 i
  have fk := Cert.AttnProof.real_of_blocks hk fun c i => by
    rw [Cert.AttnProof.wk_eq]
    exact Cert.AttnProof.pre_wk _ _ _ _ _ (hP c).2.2 i
  have hR (c) := Cert.AttnProof.res_join hx hq hk hv ho fx fq fk c
  refine ⟨Cert.ReferenceIdeal.Value.res_main_v39 (F := Ideal) m' 0, ?_, ?_⟩
  · refine (θ_run Cert.KernelIdeal.defs _ _).mono (fun r h c => ?_) (Cert.AttnProof.run_arrays (F := Ideal) m g)
    exact ⟨(h.1 c).1.trans ((hR c).trans (Cert.AttnProof.res_eq m' 0).symm), (h.1 c).2⟩
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.Pre_scores_finite_KernelIdeal.Gen.facts,
    Cert.Pre_scores_finite_ReferenceIdeal.Gen.facts, frame_kernel, frame_kernelIdeal, fun m ρ _ => frame_kernelIdeal m ρ trivial,
    frame_reference, fun m ρ _ => frame_reference m ρ trivial, trivial, algebraic_kernel⟩

end Cert.Proof

end
